-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S2x1024x256 : Shape := ⟨3, ![2, 1024, 256]⟩
abbrev S2x512x256 : Shape := ⟨3, ![2, 512, 256]⟩
abbrev S2x7x64x256 : Shape := ⟨4, ![2, 7, 64, 256]⟩
abbrev S2x8x64x256 : Shape := ⟨4, ![2, 8, 64, 256]⟩
abbrev S4 : Shape := ⟨1, ![4]⟩
abbrev S2x7 : Shape := ⟨2, ![2, 7]⟩
abbrev S_ : Shape := ⟨0, ![]⟩
abbrev S1 : Shape := ⟨1, ![1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x7 : Shape := ⟨2, ![1, 7]⟩
abbrev S7 : Shape := ⟨1, ![7]⟩
abbrev S1x7x64x256 : Shape := ⟨4, ![1, 7, 64, 256]⟩
abbrev S7x64x256 : Shape := ⟨3, ![7, 64, 256]⟩
abbrev S1x64x256 : Shape := ⟨3, ![1, 64, 256]⟩
abbrev S64x256 : Shape := ⟨2, ![64, 256]⟩
abbrev S1x1x64x256 : Shape := ⟨4, ![1, 1, 64, 256]⟩
abbrev S1x8x64x256 : Shape := ⟨4, ![1, 8, 64, 256]⟩
abbrev S8x64x256 : Shape := ⟨3, ![8, 64, 256]⟩

abbrev nBuf : Space → Nat
  | .hbm => 5
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S1024x512, .f32⟩
  | .hbm, ⟨4, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S2x1024x256, .f32⟩
  | .local _ .vmem, ⟨5, _⟩ => ⟨S2x512x256, .bf16⟩
  | .local _ .vmem, ⟨6, _⟩ => ⟨S2x7x64x256, .bf16⟩
  | .local _ .vmem, ⟨7, _⟩ => ⟨S2x8x64x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_65 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.addi v2 c1_i32_65
  let c8_i32_66 : BitVec 32 := 8#32
  let v74 : BitVec 32 := Scalar.remsi v73 c8_i32_66
  let c64_i32 : BitVec 32 := 64#32
  let v75 : BitVec 32 := Scalar.muli v74 c64_i32
  let c0_i32_85 : BitVec 32 := 0#32
  ![v75.toNat, 0]
def k0_off2 (d0 : Dev nD) (c1_i32_65 : BitVec 32) : Fin 3 → Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.addi v2 c1_i32_65
  let c8_i32_66 : BitVec 32 := 8#32
  let v74 : BitVec 32 := Scalar.remsi v73 c8_i32_66
  let c64_i32 : BitVec 32 := 64#32
  let v75 : BitVec 32 := Scalar.muli v74 c64_i32
  let c0_i32_84 : BitVec 32 := 0#32
  ![0, v75.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_65 : BitVec 32 := 1#32
  let v73 : BitVec 32 := Scalar.addi v2 c1_i32_65
  let c8_i32_66 : BitVec 32 := 8#32
  let v74 : BitVec 32 := Scalar.remsi v73 c8_i32_66
  let c1_i32_74 : BitVec 32 := 1#32
  let v76 : BitVec 32 := Scalar.muli v74 c1_i32_74
  let v77 : BitVec 32 := Scalar.addi c0_i32_75 v76
  v77.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_86 : BitVec 32 := 2#32
  let v93 : BitVec 32 := Scalar.addi v2 c2_i32_86
  let c8_i32_87 : BitVec 32 := 8#32
  let v94 : BitVec 32 := Scalar.remsi v93 c8_i32_87
  let c1_i32_96 : BitVec 32 := 1#32
  let v96 : BitVec 32 := Scalar.muli v94 c1_i32_96
  let v97 : BitVec 32 := Scalar.addi c0_i32_97 v96
  v97.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_108 : BitVec 32 := 3#32
  let v113 : BitVec 32 := Scalar.addi v2 c3_i32_108
  let c8_i32_109 : BitVec 32 := 8#32
  let v114 : BitVec 32 := Scalar.remsi v113 c8_i32_109
  let c1_i32_118 : BitVec 32 := 1#32
  let v116 : BitVec 32 := Scalar.muli v114 c1_i32_118
  let v117 : BitVec 32 := Scalar.addi c0_i32_119 v116
  v117.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v133 : BitVec 32 := Scalar.addi v2 c4_i32_130
  let c8_i32_131 : BitVec 32 := 8#32
  let v134 : BitVec 32 := Scalar.remsi v133 c8_i32_131
  let c1_i32_140 : BitVec 32 := 1#32
  let v136 : BitVec 32 := Scalar.muli v134 c1_i32_140
  let v137 : BitVec 32 := Scalar.addi c0_i32_141 v136
  v137.toNat
def k0_dev12 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_152 : BitVec 32 := 5#32
  let v153 : BitVec 32 := Scalar.addi v2 c5_i32_152
  let c8_i32_153 : BitVec 32 := 8#32
  let v154 : BitVec 32 := Scalar.remsi v153 c8_i32_153
  let c1_i32_162 : BitVec 32 := 1#32
  let v156 : BitVec 32 := Scalar.muli v154 c1_i32_162
  let v157 : BitVec 32 := Scalar.addi c0_i32_163 v156
  v157.toNat
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_174 : BitVec 32 := 6#32
  let v173 : BitVec 32 := Scalar.addi v2 c6_i32_174
  let c8_i32_175 : BitVec 32 := 8#32
  let v174 : BitVec 32 := Scalar.remsi v173 c8_i32_175
  let c1_i32_184 : BitVec 32 := 1#32
  let v176 : BitVec 32 := Scalar.muli v174 c1_i32_184
  let v177 : BitVec 32 := Scalar.addi c0_i32_185 v176
  v177.toNat
def k0_dev14 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_196 : BitVec 32 := 7#32
  let v193 : BitVec 32 := Scalar.addi v2 c7_i32_196
  let c8_i32_197 : BitVec 32 := 8#32
  let v194 : BitVec 32 := Scalar.remsi v193 c8_i32_197
  let c1_i32_206 : BitVec 32 := 1#32
  let v196 : BitVec 32 := Scalar.muli v194 c1_i32_206
  let v197 : BitVec 32 := Scalar.addi c0_i32_207 v196
  v197.toNat
def k0_off3 (d0 : Dev nD) (c1_i32_230 : BitVec 32) : Fin 3 → Nat :=
  let c1_i32_233 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v225 : BitVec 32 := Scalar.addi v2 c1_i32_230
  let c8_i32_231 : BitVec 32 := 8#32
  let v226 : BitVec 32 := Scalar.remsi v225 c8_i32_231
  let c64_i32_232 : BitVec 32 := 64#32
  let v227 : BitVec 32 := Scalar.muli v226 c64_i32_232
  let c0_i32_250 : BitVec 32 := 0#32
  ![1, v227.toNat, 0]
def k0_dev15 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v225 : BitVec 32 := Scalar.addi v2 c1_i32_230
  let c8_i32_231 : BitVec 32 := 8#32
  let v226 : BitVec 32 := Scalar.remsi v225 c8_i32_231
  let c1_i32_240 : BitVec 32 := 1#32
  let v228 : BitVec 32 := Scalar.muli v226 c1_i32_240
  let v229 : BitVec 32 := Scalar.addi c0_i32_241 v228
  v229.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_252 : BitVec 32 := 2#32
  let v245 : BitVec 32 := Scalar.addi v2 c2_i32_252
  let c8_i32_253 : BitVec 32 := 8#32
  let v246 : BitVec 32 := Scalar.remsi v245 c8_i32_253
  let c1_i32_262 : BitVec 32 := 1#32
  let v248 : BitVec 32 := Scalar.muli v246 c1_i32_262
  let v249 : BitVec 32 := Scalar.addi c0_i32_263 v248
  v249.toNat
def k0_dev17 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v265 : BitVec 32 := Scalar.addi v2 c3_i32_274
  let c8_i32_275 : BitVec 32 := 8#32
  let v266 : BitVec 32 := Scalar.remsi v265 c8_i32_275
  let c1_i32_284 : BitVec 32 := 1#32
  let v268 : BitVec 32 := Scalar.muli v266 c1_i32_284
  let v269 : BitVec 32 := Scalar.addi c0_i32_285 v268
  v269.toNat
def k0_dev18 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_296 : BitVec 32 := 4#32
  let v285 : BitVec 32 := Scalar.addi v2 c4_i32_296
  let c8_i32_297 : BitVec 32 := 8#32
  let v286 : BitVec 32 := Scalar.remsi v285 c8_i32_297
  let c1_i32_306 : BitVec 32 := 1#32
  let v288 : BitVec 32 := Scalar.muli v286 c1_i32_306
  let v289 : BitVec 32 := Scalar.addi c0_i32_307 v288
  v289.toNat
def k0_dev19 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_318 : BitVec 32 := 5#32
  let v305 : BitVec 32 := Scalar.addi v2 c5_i32_318
  let c8_i32_319 : BitVec 32 := 8#32
  let v306 : BitVec 32 := Scalar.remsi v305 c8_i32_319
  let c1_i32_328 : BitVec 32 := 1#32
  let v308 : BitVec 32 := Scalar.muli v306 c1_i32_328
  let v309 : BitVec 32 := Scalar.addi c0_i32_329 v308
  v309.toNat
def k0_dev20 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_340 : BitVec 32 := 6#32
  let v325 : BitVec 32 := Scalar.addi v2 c6_i32_340
  let c8_i32_341 : BitVec 32 := 8#32
  let v326 : BitVec 32 := Scalar.remsi v325 c8_i32_341
  let c1_i32_350 : BitVec 32 := 1#32
  let v328 : BitVec 32 := Scalar.muli v326 c1_i32_350
  let v329 : BitVec 32 := Scalar.addi c0_i32_351 v328
  v329.toNat
def k0_dev21 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_362 : BitVec 32 := 7#32
  let v345 : BitVec 32 := Scalar.addi v2 c7_i32_362
  let c8_i32_363 : BitVec 32 := 8#32
  let v346 : BitVec 32 := Scalar.remsi v345 c8_i32_363
  let c1_i32_372 : BitVec 32 := 1#32
  let v348 : BitVec 32 := Scalar.muli v346 c1_i32_372
  let v349 : BitVec 32 := Scalar.addi c0_i32_373 v348
  v349.toNat
def k0_off4 (d0 : Dev nD) : Fin 3 → Nat :=
  let c0_385 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_384 : BitVec 32 := 64#32
  let v365 : BitVec 32 := Scalar.muli v2 c64_i32_384
  let v366 : Index := Scalar.indexCast v365
  let c0_386 : Index := 0#32
  ![0, v366.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_536 : BitVec 32 := 64#32
  let v489 : BitVec 32 := Scalar.muli v2 c64_i32_536
  let v490 : Index := Scalar.indexCast v489
  let c0_537 : Index := 0#32
  ![v490.toNat, 0]
def k0_off6 (d0 : Dev nD) : Fin 4 → Nat :=
  let c0_538 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v493 : Index := Scalar.indexCast v2
  let c0_539 : Index := 0#32
  let c0_540 : Index := 0#32
  ![0, v493.toNat, 0, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_556 : BitVec 32 := 0#32
  let c0_i32_557 : BitVec 32 := 0#32
  ![v2.toNat, 0, 0]
def k0_off8 (d0 : Dev nD) : Fin 4 → Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_559 : BitVec 32 := 0#32
  let c0_i32_560 : BitVec 32 := 0#32
  ![0, v2.toNat, 0, 0]
def k0_dev22 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_541 : BitVec 32 := 1#32
  let v497 : BitVec 32 := Scalar.addi v2 c1_i32_541
  let c8_i32_542 : BitVec 32 := 8#32
  let v498 : BitVec 32 := Scalar.remsi v497 c8_i32_542
  let c1_i32_549 : BitVec 32 := 1#32
  let v499 : BitVec 32 := Scalar.muli v498 c1_i32_549
  let v500 : BitVec 32 := Scalar.addi c0_i32_550 v499
  v500.toNat
def k0_dev23 (d0 : Dev nD) : Nat :=
  let c0_i32_572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_563 : BitVec 32 := 2#32
  let v517 : BitVec 32 := Scalar.addi v2 c2_i32_563
  let c8_i32_564 : BitVec 32 := 8#32
  let v518 : BitVec 32 := Scalar.remsi v517 c8_i32_564
  let c1_i32_571 : BitVec 32 := 1#32
  let v519 : BitVec 32 := Scalar.muli v518 c1_i32_571
  let v520 : BitVec 32 := Scalar.addi c0_i32_572 v519
  v520.toNat
def k0_dev24 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_585 : BitVec 32 := 3#32
  let v537 : BitVec 32 := Scalar.addi v2 c3_i32_585
  let c8_i32_586 : BitVec 32 := 8#32
  let v538 : BitVec 32 := Scalar.remsi v537 c8_i32_586
  let c1_i32_593 : BitVec 32 := 1#32
  let v539 : BitVec 32 := Scalar.muli v538 c1_i32_593
  let v540 : BitVec 32 := Scalar.addi c0_i32_594 v539
  v540.toNat
def k0_dev25 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_607 : BitVec 32 := 4#32
  let v557 : BitVec 32 := Scalar.addi v2 c4_i32_607
  let c8_i32_608 : BitVec 32 := 8#32
  let v558 : BitVec 32 := Scalar.remsi v557 c8_i32_608
  let c1_i32_615 : BitVec 32 := 1#32
  let v559 : BitVec 32 := Scalar.muli v558 c1_i32_615
  let v560 : BitVec 32 := Scalar.addi c0_i32_616 v559
  v560.toNat
def k0_dev26 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_629 : BitVec 32 := 5#32
  let v577 : BitVec 32 := Scalar.addi v2 c5_i32_629
  let c8_i32_630 : BitVec 32 := 8#32
  let v578 : BitVec 32 := Scalar.remsi v577 c8_i32_630
  let c1_i32_637 : BitVec 32 := 1#32
  let v579 : BitVec 32 := Scalar.muli v578 c1_i32_637
  let v580 : BitVec 32 := Scalar.addi c0_i32_638 v579
  v580.toNat
def k0_dev27 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_651 : BitVec 32 := 6#32
  let v597 : BitVec 32 := Scalar.addi v2 c6_i32_651
  let c8_i32_652 : BitVec 32 := 8#32
  let v598 : BitVec 32 := Scalar.remsi v597 c8_i32_652
  let c1_i32_659 : BitVec 32 := 1#32
  let v599 : BitVec 32 := Scalar.muli v598 c1_i32_659
  let v600 : BitVec 32 := Scalar.addi c0_i32_660 v599
  v600.toNat
def k0_dev28 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_673 : BitVec 32 := 7#32
  let v617 : BitVec 32 := Scalar.addi v2 c7_i32_673
  let c8_i32_674 : BitVec 32 := 8#32
  let v618 : BitVec 32 := Scalar.remsi v617 c8_i32_674
  let c1_i32_681 : BitVec 32 := 1#32
  let v619 : BitVec 32 := Scalar.muli v618 c1_i32_681
  let v620 : BitVec 32 := Scalar.addi c0_i32_682 v619
  v620.toNat
def k0_off9 (d0 : Dev nD) : Fin 3 → Nat :=
  let c1_696 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_695 : BitVec 32 := 64#32
  let v637 : BitVec 32 := Scalar.muli v2 c64_i32_695
  let v638 : Index := Scalar.indexCast v637
  let c0_697 : Index := 0#32
  ![1, v638.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_852 : BitVec 32 := 64#32
  let v761 : BitVec 32 := Scalar.muli v2 c64_i32_852
  let v762 : Index := Scalar.indexCast v761
  let c256 : Index := 256#32
  ![v762.toNat, 256]
def k0_off11 (d0 : Dev nD) : Fin 4 → Nat :=
  let c1_853 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v765 : Index := Scalar.indexCast v2
  let c0_854 : Index := 0#32
  let c0_855 : Index := 0#32
  ![1, v765.toNat, 0, 0]
def k0_off12 (d0 : Dev nD) : Fin 4 → Nat :=
  let c1_i32_858 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_874 : BitVec 32 := 0#32
  let c0_i32_875 : BitVec 32 := 0#32
  ![1, v2.toNat, 0, 0]
def k0_dev29 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_856 : BitVec 32 := 1#32
  let v769 : BitVec 32 := Scalar.addi v2 c1_i32_856
  let c8_i32_857 : BitVec 32 := 8#32
  let v770 : BitVec 32 := Scalar.remsi v769 c8_i32_857
  let c1_i32_864 : BitVec 32 := 1#32
  let v771 : BitVec 32 := Scalar.muli v770 c1_i32_864
  let v772 : BitVec 32 := Scalar.addi c0_i32_865 v771
  v772.toNat
def k0_dev30 (d0 : Dev nD) : Nat :=
  let c0_i32_887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_878 : BitVec 32 := 2#32
  let v789 : BitVec 32 := Scalar.addi v2 c2_i32_878
  let c8_i32_879 : BitVec 32 := 8#32
  let v790 : BitVec 32 := Scalar.remsi v789 c8_i32_879
  let c1_i32_886 : BitVec 32 := 1#32
  let v791 : BitVec 32 := Scalar.muli v790 c1_i32_886
  let v792 : BitVec 32 := Scalar.addi c0_i32_887 v791
  v792.toNat
def k0_dev31 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_900 : BitVec 32 := 3#32
  let v809 : BitVec 32 := Scalar.addi v2 c3_i32_900
  let c8_i32_901 : BitVec 32 := 8#32
  let v810 : BitVec 32 := Scalar.remsi v809 c8_i32_901
  let c1_i32_908 : BitVec 32 := 1#32
  let v811 : BitVec 32 := Scalar.muli v810 c1_i32_908
  let v812 : BitVec 32 := Scalar.addi c0_i32_909 v811
  v812.toNat
def k0_dev32 (d0 : Dev nD) : Nat :=
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_922 : BitVec 32 := 4#32
  let v829 : BitVec 32 := Scalar.addi v2 c4_i32_922
  let c8_i32_923 : BitVec 32 := 8#32
  let v830 : BitVec 32 := Scalar.remsi v829 c8_i32_923
  let c1_i32_930 : BitVec 32 := 1#32
  let v831 : BitVec 32 := Scalar.muli v830 c1_i32_930
  let v832 : BitVec 32 := Scalar.addi c0_i32_931 v831
  v832.toNat
def k0_dev33 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_944 : BitVec 32 := 5#32
  let v849 : BitVec 32 := Scalar.addi v2 c5_i32_944
  let c8_i32_945 : BitVec 32 := 8#32
  let v850 : BitVec 32 := Scalar.remsi v849 c8_i32_945
  let c1_i32_952 : BitVec 32 := 1#32
  let v851 : BitVec 32 := Scalar.muli v850 c1_i32_952
  let v852 : BitVec 32 := Scalar.addi c0_i32_953 v851
  v852.toNat
def k0_dev34 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_966 : BitVec 32 := 6#32
  let v869 : BitVec 32 := Scalar.addi v2 c6_i32_966
  let c8_i32_967 : BitVec 32 := 8#32
  let v870 : BitVec 32 := Scalar.remsi v869 c8_i32_967
  let c1_i32_974 : BitVec 32 := 1#32
  let v871 : BitVec 32 := Scalar.muli v870 c1_i32_974
  let v872 : BitVec 32 := Scalar.addi c0_i32_975 v871
  v872.toNat
def k0_dev35 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_988 : BitVec 32 := 7#32
  let v889 : BitVec 32 := Scalar.addi v2 c7_i32_988
  let c8_i32_989 : BitVec 32 := 8#32
  let v890 : BitVec 32 := Scalar.remsi v889 c8_i32_989
  let c1_i32_996 : BitVec 32 := 1#32
  let v891 : BitVec 32 := Scalar.muli v890 c1_i32_996
  let v892 : BitVec 32 := Scalar.addi c0_i32_997 v891
  v892.toNat
def k0_off13 (d0 : Dev nD) (c7_i32_1010 : BitVec 32) : Fin 4 → Nat :=
  let c0_1031 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v909 : BitVec 32 := Scalar.addi v2 c7_i32_1010
  let c8_i32_1011 : BitVec 32 := 8#32
  let v910 : BitVec 32 := Scalar.remsi v909 c8_i32_1011
  let v925 : Index := Scalar.indexCast v910
  let c0_1032 : Index := 0#32
  let c0_1033 : Index := 0#32
  ![0, v925.toNat, 0, 0]
def k0_off14 (d0 : Dev nD) (c7_i32_1010 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v909 : BitVec 32 := Scalar.addi v2 c7_i32_1010
  let c8_i32_1011 : BitVec 32 := 8#32
  let v910 : BitVec 32 := Scalar.remsi v909 c8_i32_1011
  let c64_i32_1034 : BitVec 32 := 64#32
  let v929 : BitVec 32 := Scalar.muli v910 c64_i32_1034
  let v930 : Index := Scalar.indexCast v929
  let c0_1035 : Index := 0#32
  ![v930.toNat, 0]
def k0_off15 (d0 : Dev nD) (c7_i32_1192 : BitVec 32) : Fin 4 → Nat :=
  let c1_1213 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1070 : BitVec 32 := Scalar.addi v2 c7_i32_1192
  let c8_i32_1193 : BitVec 32 := 8#32
  let v1071 : BitVec 32 := Scalar.remsi v1070 c8_i32_1193
  let v1086 : Index := Scalar.indexCast v1071
  let c0_1214 : Index := 0#32
  let c0_1215 : Index := 0#32
  ![1, v1086.toNat, 0, 0]
def k0_off16 (d0 : Dev nD) (c7_i32_1192 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1070 : BitVec 32 := Scalar.addi v2 c7_i32_1192
  let c8_i32_1193 : BitVec 32 := 8#32
  let v1071 : BitVec 32 := Scalar.remsi v1070 c8_i32_1193
  let c64_i32_1216 : BitVec 32 := 64#32
  let v1090 : BitVec 32 := Scalar.muli v1071 c64_i32_1216
  let v1091 : Index := Scalar.indexCast v1090
  let c256_1217 : Index := 256#32
  ![v1091.toNat, 256]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x8192, .f32⟩
  | .hbm, ⟨2, _⟩ => ⟨S512x8192, .f32⟩
  | .hbm, ⟨3, _⟩ => ⟨S8192x512, .f32⟩
  | .hbm, ⟨4, _⟩ => ⟨S512x8192, .f32⟩
  | .hbm, ⟨5, _⟩ => ⟨S512x8192, .f32⟩
  | .hbm, ⟨6, _⟩ => ⟨S512x8192, .f32⟩
  | .hbm, ⟨7, _⟩ => ⟨S512x8192, .f32⟩
  | .hbm, ⟨8, _⟩ => ⟨S_, .f32⟩
  | .hbm, ⟨9, _⟩ => ⟨S512x8192, .f32⟩
  | .hbm, ⟨10, _⟩ => ⟨S512x8192, .f32⟩
  | .hbm, ⟨11, _⟩ => ⟨S512x8192, .f32⟩
  | .hbm, ⟨12, _⟩ => ⟨S512x8192, .f32⟩
  | .hbm, ⟨13, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Cells.lean ====
/-
The mesh, the buffers' blocks and the semaphore cells of the kernel.

Eight devices; device `c` sends its message number `k` (of seven) to `fwd c k` and gets its message number `k` from
`bwd c k`. Every message is one block of 64 rows of one half (256 columns) of the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Memref
public import Idealize.ShloMosaic.Lib.Tactic

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh -/

set_option backward.proofsInPublic true in
/-- Where device `c`'s message `k` goes. -/
def fwd (c : Dev nD) (k : Fin 7) : Dev nD := ⟨(c.val + k.val + 1) % 8, Nat.mod_lt _ (by decide)⟩
set_option backward.proofsInPublic true in
/-- Where device `c`'s message `k` comes from. -/
def bwd (c : Dev nD) (k : Fin 7) : Dev nD := ⟨(c.val + 7 - k.val) % 8, Nat.mod_lt _ (by decide)⟩

theorem bwd_fwd (c : Dev nD) (k : Fin 7) : bwd (fwd c k) k = c := by revert c k; decide
theorem fwd_bwd (c : Dev nD) (k : Fin 7) : fwd (bwd c k) k = c := by revert c k; decide
/-- Seven steps less `k` further on from where message `k` goes is the sender again. -/
theorem fwd_fwd_rev (c : Dev nD) (k : Fin 7) : fwd (fwd c k) k.rev = c := by revert c k; decide
theorem fwd_rev (c : Dev nD) (k : Fin 7) : fwd c k.rev = bwd c k := by revert c k; decide
theorem fwd_ne (c : Dev nD) (k : Fin 7) : fwd c k ≠ c := by revert c k; decide
theorem fwd_inj (c : Dev nD) (k k' : Fin 7) (h : fwd c k = fwd c k') : k = k' := by revert c k k'; decide

/-- Message `k`'s sender and receiver, one step along the mesh as a permutation. -/
def step (k : Fin 7) : Dev nD ≃ Dev nD := ⟨fun c => fwd c k, fun c => bwd c k, fun c => bwd_fwd c k, fun c => fwd_bwd c k⟩

/-! ## The buffers -/

abbrev xM : Memref sig .tc .vmem S512x512 .f32 := Memref.whole cc0_stg0_0
abbrev oM : Memref sig .tc .vmem S512x512 .f32 := Memref.whole cc0_stg1_0
abbrev wgH : Memref sig .tc .hbm S512x1024 .f32 := Memref.whole main_arg1
abbrev wuH : Memref sig .tc .hbm S512x1024 .f32 := Memref.whole main_arg2
abbrev wdH : Memref sig .tc .hbm S1024x512 .f32 := Memref.whole main_arg3
abbrev wgM : Memref sig .tc .vmem S512x1024 .f32 := Memref.whole cc0_scratch0
abbrev wuM : Memref sig .tc .vmem S512x1024 .f32 := Memref.whole cc0_scratch1
abbrev wdM : Memref sig .tc .vmem S2x1024x256 .f32 := Memref.whole cc0_scratch2
abbrev pM : Memref sig .tc .vmem S2x512x256 .bf16 := Memref.whole cc0_scratch3
abbrev rM : Memref sig .tc .vmem S2x7x64x256 .bf16 := Memref.whole cc0_scratch4
abbrev gM : Memref sig .tc .vmem S2x8x64x256 .bf16 := Memref.whole cc0_scratch5

theorem wd_inb (h : Fin 2) : ∀ a, (![h.val, 0, 0] : Fin 3 → ℕ) a + S1x1024x256.size a ≤ S2x1024x256.size a := by revert h; decide
theorem wdh_inb (h : Fin 2) : ∀ a, (![0, 256 * h.val] : Fin 2 → ℕ) a + S1024x256.size a ≤ S1024x512.size a := by revert h; decide
theorem ph_inb (h : Fin 2) : ∀ a, (![h.val, 0, 0] : Fin 3 → ℕ) a + S1x512x256.size a ≤ S2x512x256.size a := by revert h; decide
theorem pb_inb (h : Fin 2) (j : Fin 8) : ∀ a, (![h.val, 64 * j.val, 0] : Fin 3 → ℕ) a + S1x64x256.size a ≤ S2x512x256.size a := by revert h j; decide
theorem rs_inb (h : Fin 2) (k : Fin 7) : ∀ a, (![h.val, k.val, 0, 0] : Fin 4 → ℕ) a + S1x1x64x256.size a ≤ S2x7x64x256.size a := by revert h k; decide
theorem ag_inb (h : Fin 2) (j : Fin 8) : ∀ a, (![h.val, j.val, 0, 0] : Fin 4 → ℕ) a + S1x1x64x256.size a ≤ S2x8x64x256.size a := by revert h j; decide
theorem out_inb (h : Fin 2) (j : Fin 8) : ∀ a, (![64 * j.val, 256 * h.val] : Fin 2 → ℕ) a + S64x256.size a ≤ S512x512.size a := by revert h j; decide

/-- Half `h` of the down weights, in the device's memory and in its scratch. -/
abbrev wdSrc (h : Fin 2) : Memref sig .tc .hbm S1024x256 .f32 :=
  wdH.slice (Rect.unit (s := S1024x512) ![0, 256 * h.val] S1024x256.size (wdh_inb h)) (fun _ => rfl)
abbrev wdDst (h : Fin 2) : Memref sig .tc .vmem S1024x256 .f32 :=
  (wdM.slice (Rect.unit (s := S2x1024x256) ![h.val, 0, 0] S1x1024x256.size (wd_inb h)) (fun _ => rfl)).squeeze S1024x256 squeezes_S1x1024x256_S1024x256
/-- Half `h` of the device's partial products, and its block of rows `j`. -/
abbrev pHalf (h : Fin 2) : Memref sig .tc .vmem S512x256 .bf16 :=
  (pM.slice (Rect.unit (s := S2x512x256) ![h.val, 0, 0] S1x512x256.size (ph_inb h)) (fun _ => rfl)).squeeze S512x256 squeezes_S1x512x256_S512x256
abbrev pBlk (h : Fin 2) (j : Fin 8) : Memref sig .tc .vmem S64x256 .bf16 :=
  (pM.slice (Rect.unit (s := S2x512x256) ![h.val, 64 * j.val, 0] S1x64x256.size (pb_inb h j)) (fun _ => rfl)).squeeze S64x256 squeezes_S1x64x256_S64x256
/-- Where message `k` of the reduce-scatter, half `h`, lands. -/
abbrev rsSlot (h : Fin 2) (k : Fin 7) : Memref sig .tc .vmem S64x256 .bf16 :=
  (rM.slice (Rect.unit (s := S2x7x64x256) ![h.val, k.val, 0, 0] S1x1x64x256.size (rs_inb h k)) (fun _ => rfl)).squeeze S64x256 squeezes_S1x1x64x256_S64x256
/-- Where the reduced block of device `j`, half `h`, is kept. -/
abbrev agSlot (h : Fin 2) (j : Fin 8) : Memref sig .tc .vmem S64x256 .bf16 :=
  (gM.slice (Rect.unit (s := S2x8x64x256) ![h.val, j.val, 0, 0] S1x1x64x256.size (ag_inb h j)) (fun _ => rfl)).squeeze S64x256 squeezes_S1x1x64x256_S64x256

/-! ## The semaphores -/

/-- The barrier semaphore, of each device one. -/
abbrev barS : Sem sig := (SemArray.scalar (sig.barrier 0 rfl) : Sems sig S_).sem

set_option backward.proofsInPublic true in
/-- The transfers' semaphores: `a` is the array (reduce-scatter sent, landed; all-gather sent, landed), `h` the half,
    `k` the message. -/
def xs (a : Fin 4) (h : Fin 2) (k : Fin 7) : DmaSem sig := ⟨6 + 14 * a.val + 7 * h.val + k.val, by
  have := a.isLt; have := h.isLt; have := k.isLt; show _ < 62; omega⟩

/-- The array, half and message of a transfer's semaphore. -/
def dec (q : DmaSem sig) : Fin 4 × Fin 2 × Fin 7 :=
  (Fin.ofNat 4 ((q.val - 6) / 14), Fin.ofNat 2 ((q.val - 6) % 14 / 7), Fin.ofNat 7 ((q.val - 6) % 7))

theorem dec_xs (a : Fin 4) (h : Fin 2) (k : Fin 7) : dec (xs a h k) = (a, h, k) := by revert a h k; decide
theorem le_xs (a : Fin 4) (h : Fin 2) (k : Fin 7) : 6 ≤ (xs a h k).val := by
  show 6 ≤ 6 + 14 * a.val + 7 * h.val + k.val; omega

abbrev barCell (c : Dev nD) : GSem nD τ sig := ((c : Thread nD τ), .reg barS)
abbrev xCell (c : Dev nD) (a : Fin 4) (h : Fin 2) (k : Fin 7) : GSem nD τ sig := ((c : Thread nD τ), .dma (xs a h k))

/-- The cells of the protocol on one device: the barrier, and one for each array, half and message. -/
abbrev CI : Type := Unit ⊕ (Fin 4 × Fin 2 × Fin 7)
abbrev csem : CI → SemLoc sig
  | .inl _ => .reg barS
  | .inr i => .dma (xs i.1 i.2.1 i.2.2)
abbrev kcell (p : Dev nD × CI) : GSem nD τ sig := ((p.1 : Thread nD τ), csem p.2)

/-- What one message's transfer counts. -/
abbrev N : ℕ := (rsSlot 0 0).view.dmaCredit
theorem N_pos : 0 < N := View.dmaCredit_pos _ (by decide)

end Cert.Mesh
-- ==== Proof.Protocol.lean ====
/-
What every buffer holds during the kernel, and the protocol of its semaphores: who pays which cell, and what a wait
on it hands over.
-/
module

public import proofs.«01_k».proof.Proof.Cells

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the protocol's rounds, the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds, the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Contents -/

/-- The activations, staged. -/
def xC (c : Dev nD) : Vec F S512x512 .f32 := (win0_0.blk (0 : Fin 1)).view.read (Elt F) (m ((c : Thread nD τ).loc main_arg0))
/-- The gate and up weights of device `c`. -/
def wgC (c : Dev nD) : Vec F S512x1024 .f32 := m ((c : Thread nD τ).loc main_arg1)
def wuC (c : Dev nD) : Vec F S512x1024 .f32 := m ((c : Thread nD τ).loc main_arg2)
/-- Half `h` of its down weights. -/
def wdC (c : Dev nD) (h : Fin 2) : Vec F S1024x256 .f32 := (wdSrc h).view.read (Elt F) (m ((c : Thread nD τ).loc main_arg3))

/-- The hidden activations of device `c`. -/
def act (c : Dev nD) : FVec F S512x1024 .f32 := k0_pay2 (k0_pay1 (xC m c)) (wgC m c) (xC m c) (wuC m c)
/-- Half `h` of device `c`'s partial product. -/
def pD (c : Dev nD) (h : Fin 2) : FVec F S512x256 .bf16 :=
  truncf .bf16 (matmul dot_S512x1024_S1024x256_S512x256_1_0_0_1_n_n none (act m c) (wdC m c h) (constant S512x256 .f32 0x00000000#32)) bitsLt_bf16_f32

theorem row_inb (j : Fin 8) : ∀ a, (![64 * j.val, 0] : Fin 2 → ℕ) a + S64x256.size a ≤ S512x256.size a := by revert j; decide
/-- Its block of rows `j`. -/
def blk (d : Dev nD) (h : Fin 2) (j : Fin 8) : FVec F S64x256 .bf16 :=
  fun x => pD m d h ((Rect.unit (s := S512x256) ![64 * j.val, 0] S64x256.size (row_inb j)).emb x)

/-- A block widened to the accumulator's type. -/
def wide (v : FVec F S64x256 .bf16) : FVec F S64x256 .f32 := extf .f32 v bitsLt_bf16_f32
/-- What device `c` sums in half `h`: its own block, then the ones that land, in the messages' order. -/
def redV (c : Dev nD) (h : Fin 2) : FVec F S64x256 .f32 :=
  addf (addf (addf (addf (addf (addf (addf (wide (blk m c h c)) (wide (blk m (bwd c 0) h c))) (wide (blk m (bwd c 1) h c)))
    (wide (blk m (bwd c 2) h c))) (wide (blk m (bwd c 3) h c))) (wide (blk m (bwd c 4) h c))) (wide (blk m (bwd c 5) h c)))
    (wide (blk m (bwd c 6) h c))
/-- The sum as it is sent round. -/
def agV (c : Dev nD) (h : Fin 2) : FVec F S64x256 .bf16 := truncf .bf16 (redV m c h) bitsLt_bf16_f32

/-- Block `j` of half `h` of device `c`'s result: the sum itself where it is its own, else the one sent. -/
def piece (c : Dev nD) (h : Fin 2) (j : Fin 8) : FVec F S64x256 .f32 := if j = c then redV m c h else wide (agV m j h)

/-- Block `j` of half `h` in the result's buffer. -/
abbrev outSlot (h : Fin 2) (j : Fin 8) : Memref sig .tc .vmem S64x256 .f32 :=
  oM.slice (Rect.unit (s := S512x512) ![64 * j.val, 256 * h.val] S64x256.size (out_inb h j)) (fun _ => rfl)

set_option backward.proofsInPublic true in
/-- Device `c`'s result. -/
def outV (c : Dev nD) : Vec F S512x512 .f32 := fun i =>
  piece m c ⟨(i 1).val / 256, by have h := (i 1).isLt; change (i 1).val < 512 at h; omega⟩ ⟨(i 0).val / 64, by have h := (i 0).isLt; change (i 0).val < 512 at h; omega⟩
    (fun | 0 => (⟨(i 0).val % 64, Nat.mod_lt _ (by decide)⟩ : Fin 64) | 1 => (⟨(i 1).val % 256, Nat.mod_lt _ (by decide)⟩ : Fin 256))

/-! ## The schedule -/

/-- A memref's elements at any contents. -/
def anyAt (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

instance anyAt_storable (c : Dev nD) {sp : Space} {S : Shape} {e : EltTy} (M : Memref sig .tc sp S e) :
    BI.Storable (upEmb : UEmb _ 𝕄) (anyAt (F := F) c M) := by unfold anyAt; infer_instance

/-- The share of a source that one of seven concurrent readers holds. -/
abbrev q7 (k : Fin 7) : PosShare TreeShare := Transfers.shareTok fullShare 7 k

/-- What the barrier signal number `k` hands device `c`: the places on the signalling device that `c`'s own messages to
    it land in. -/
def barPay (c : Dev nD) (k : Fin 7) : sProp 𝕄 :=
  iprop((anyAt (fwd c k.rev) (rsSlot 0 k.rev) ∗ anyAt (fwd c k.rev) (rsSlot 1 k.rev))
    ∗ (anyAt (fwd c k.rev) (agSlot 0 c) ∗ anyAt (fwd c k.rev) (agSlot 1 c)))

/-- What a wait on a transfer's semaphore hands device `c`. -/
def xPay (c : Dev nD) (a : Fin 4) (h : Fin 2) (k : Fin 7) : sProp 𝕄 :=
  match a with
  | 0 => owns (c : Thread nD τ) (pBlk h (fwd c k)) fullShare (blk m c h (fwd c k))
  | 1 => owns (c : Thread nD τ) (rsSlot h k) fullShare (blk m (bwd c k) h c)
  | 2 => owns (c : Thread nD τ) (agSlot h c) (q7 k) (agV m c h)
  | 3 => owns (c : Thread nD τ) (agSlot h (bwd c k)) fullShare (agV m (bwd c k) h)

instance barPay_storable (c : Dev nD) (k : Fin 7) : BI.Storable (upEmb : UEmb _ 𝕄) (barPay (F := F) c k) := by
  unfold barPay; infer_instance
instance xPay_storable (c : Dev nD) (a : Fin 4) (h : Fin 2) (k : Fin 7) : BI.Storable (upEmb : UEmb _ 𝕄) (xPay m c a h k) := by
  unfold xPay; split <;> infer_instance

/-- One round: seven duties of one unit at a barrier, one duty of a block's credit at a transfer's semaphore. -/
def rd : Rounds.Schedule (GSem nD τ sig) (Fin 7) 𝕄 where
  duties g r := if r = 0 ∧ g.1.2 = .tc then (match g.2 with | .reg s => if s = barS then Finset.univ else ∅ | .dma q => if 6 ≤ q.val then {0} else ∅) else ∅
  unitless _ := False
  amount g _ _ := match g.2 with | .reg _ => 1 | .dma _ => N
  payload g _ d := match g.2 with | .reg _ => barPay g.1.1 d | .dma q => xPay m g.1.1 (dec q).1 (dec q).2.1 (dec q).2.2
  amount_pos g _ _ _ := by
    rcases g with ⟨g, s | q⟩
    · exact Nat.one_pos
    · exact N_pos

instance rd_payload_storable (g : GSem nD τ sig) (r : ℕ) (d : Fin 7) :
    BI.Storable (upEmb : UEmb _ 𝕄) ((rd (F := F) m).payload g r d) := by
  rcases g with ⟨g, s | q⟩
  · show BI.Storable upEmb (barPay g.1 d); infer_instance
  · show BI.Storable upEmb (xPay m g.1 _ _ _); infer_instance

section Sched
variable (c : Dev nD)

theorem duties_bar : (rd (F := F) m).duties (barCell c) 0 = Finset.univ := by
  dsimp only [rd]; rw [if_pos ⟨rfl, rfl⟩]; exact if_pos rfl
theorem duties_x (a : Fin 4) (h : Fin 2) (k : Fin 7) : (rd (F := F) m).duties (xCell c a h k) 0 = {0} := by
  dsimp only [rd]; rw [if_pos ⟨rfl, rfl⟩]; exact if_pos (le_xs a h k)
theorem duties_later (g : GSem nD τ sig) : ∀ r, 1 ≤ r → (rd (F := F) m).duties g r = ∅ :=
  fun r hr => by dsimp only [rd]; rw [if_neg fun h => by omega]
theorem amount_bar (d : Fin 7) : (rd (F := F) m).amount (barCell c) 0 d = 1 := rfl
theorem amount_x (a : Fin 4) (h : Fin 2) (k : Fin 7) (d : Fin 7) : (rd (F := F) m).amount (xCell c a h k) 0 d = N := rfl
theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_x (a : Fin 4) (h : Fin 2) (k : Fin 7) : (rd (F := F) m).expect (xCell c a h k) 0 = N := by
  unfold Schedule.expect Schedule.amountOf; rw [duties_x, Finset.sum_singleton, amount_x]
theorem payload_bar (d : Fin 7) : (rd (F := F) m).payload (barCell c) 0 d = barPay c d := rfl
theorem payload_x (a : Fin 4) (h : Fin 2) (k : Fin 7) (d : Fin 7) : (rd (F := F) m).payload (xCell c a h k) 0 d = xPay m c a h k := by
  show xPay m c (dec (xs a h k)).1 (dec (xs a h k)).2.1 (dec (xs a h k)).2.2 = _
  rw [dec_xs]
theorem rest_bar : bigSep ((rd (F := F) m).duties (barCell c) 0 \ ∅) (fun d => (rd (F := F) m).payload (barCell c) 0 d)
    = bigSep Finset.univ (fun k => barPay c k) := by
  rw [Finset.sdiff_empty, duties_bar]; rfl
theorem rest_x (a : Fin 4) (h : Fin 2) (k : Fin 7) :
    bigSep ((rd (F := F) m).duties (xCell c a h k) 0 \ ∅) (fun d => (rd (F := F) m).payload (xCell c a h k) 0 d) = xPay m c a h k := by
  rw [Finset.sdiff_empty, duties_x, bigSep_singleton, payload_x]

end Sched

/-! ## What a device owes, in the order it pays, and the levels of the waits -/

/-- The cell device `c` pays at its `t`-th payment: seven barriers, then the landings of the reduce-scatter's messages,
    half by half, then the all-gather's. -/
def dcell (c : Dev nD) (t : ℕ) : GSem nD τ sig :=
  if t < 7 then barCell (fwd c (Fin.ofNat 7 t))
  else if t < 21 then xCell (fwd c (Fin.ofNat 7 t)) 1 (Fin.ofNat 2 (t / 7 + 1)) (Fin.ofNat 7 t)
  else xCell (fwd c (Fin.ofNat 7 t)) 3 (Fin.ofNat 2 (t / 7 + 1)) (Fin.ofNat 7 t)
/-- How much. -/
def damt (t : ℕ) : ℕ := if t < 7 then 1 else N
/-- What is still owed from the `n`-th payment on. -/
def owed (c : Dev nD) (n : ℕ) : CellTallies nD τ sig Unit := ∑ t ∈ Finset.Ico n 35, tallyAt (dcell c t) () (damt t)

theorem owed_succ (c : Dev nD) (n : ℕ) (h : n < 35) : owed c n = owed c (n + 1) + tallyAt (dcell c n) () (damt n) := by
  have e : Finset.Ico n 35 = insert n (Finset.Ico (n + 1) 35) := by
    ext t; rw [Finset.mem_insert, Finset.mem_Ico, Finset.mem_Ico]; omega
  unfold owed; rw [e, Finset.sum_insert (by rw [Finset.mem_Ico]; omega), add_comm]
theorem owed_end (c : Dev nD) : owed c 35 = 0 := by unfold owed; rw [Finset.Ico_self, Finset.sum_empty]

theorem dcell_bar (c : Dev nD) (k : Fin 7) : dcell c k.val = barCell (fwd c k) := by
  have hk := k.isLt
  unfold dcell; rw [if_pos hk]
  have : Fin.ofNat 7 k.val = k := Fin.ext (Nat.mod_eq_of_lt hk)
  rw [this]
theorem idx_k (b : ℕ) (hb : b % 7 = 0) (h : Fin 2) (k : Fin 7) : Fin.ofNat 7 (b + 7 * h.val + k.val) = k := by
  apply Fin.ext; show (b + 7 * h.val + k.val) % 7 = k.val; omega
theorem dcell_rs (c : Dev nD) (h : Fin 2) (k : Fin 7) : dcell c (7 + 7 * h.val + k.val) = xCell (fwd c k) 1 h k := by
  have hk := k.isLt; have hh := h.isLt
  unfold dcell; rw [if_neg (by omega), if_pos (by omega), idx_k 7 rfl]
  have : Fin.ofNat 2 ((7 + 7 * h.val + k.val) / 7 + 1) = h := Fin.ext (by show ((7 + 7 * h.val + k.val) / 7 + 1) % 2 = h.val; omega)
  rw [this]
theorem dcell_ag (c : Dev nD) (h : Fin 2) (k : Fin 7) : dcell c (21 + 7 * h.val + k.val) = xCell (fwd c k) 3 h k := by
  have hk := k.isLt; have hh := h.isLt
  unfold dcell; rw [if_neg (by omega), if_neg (by omega), idx_k 21 rfl]
  have : Fin.ofNat 2 ((21 + 7 * h.val + k.val) / 7 + 1) = h := Fin.ext (by show ((21 + 7 * h.val + k.val) / 7 + 1) % 2 = h.val; omega)
  rw [this]
theorem damt_bar (k : Fin 7) : damt k.val = 1 := if_pos k.isLt
theorem damt_x (n : ℕ) (h : 7 ≤ n) : damt n = N := if_neg (by omega)

/-- The level of the `t`-th payment's cell. -/
def dlv (t : ℕ) : ℕ := if t < 7 then 1 else if t < 21 then 2 else 3

def L (g : GSem nD τ sig) : Finset Unit := if g.1.2 = .tc then {()} else ∅
/-- Barriers at 1, landings of the reduce-scatter at 2, of the all-gather at 3, every other cell at 0. -/
def lv (g : GSem nD τ sig) (_ : Unit) : ℕ :=
  match g.2 with
  | .reg s => if s = barS then 1 else 0
  | .dma q => if 6 ≤ q.val then (match (dec q).1 with | 0 => 0 | 1 => 2 | 2 => 0 | 3 => 3) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (if barS = barS then 1 else 0) = 1; exact if_pos rfl
theorem lv_x (c : Dev nD) (a : Fin 4) (h : Fin 2) (k : Fin 7) : lv (xCell c a h k) () = (match a with | 0 => 0 | 1 => 2 | 2 => 0 | 3 => 3) := by
  show (if 6 ≤ (xs a h k).val then _ else 0) = _
  rw [if_pos (le_xs a h k), dec_xs]

theorem lv_dcell (c : Dev nD) (t : ℕ) : lv (dcell c t) () = dlv t := by
  unfold dcell dlv
  split
  · exact lv_bar _
  · split <;> exact lv_x _ _ _ _
theorem dcell_tc (c : Dev nD) (t : ℕ) : L (dcell c t) = {()} := by
  unfold dcell
  split
  · exact L_tc _ _
  · split <;> exact L_tc _ _

theorem owed_pos {c : Dev nD} {n : ℕ} {g : GSem nD τ sig} {u : Unit} (h : 0 < owed c n g u) : ∃ t, n ≤ t ∧ t < 35 ∧ g = dcell c t := by
  unfold owed at h
  rw [Finset.sum_apply, Finsupp.finset_sum_apply] at h
  obtain ⟨t, ht, hpos⟩ := Finset.exists_ne_zero_of_sum_ne_zero (Nat.pos_iff_ne_zero.mp h)
  rw [Finset.mem_Ico] at ht
  rw [tallyAt_apply] at hpos
  refine ⟨t, ht.1, ht.2, ?_⟩
  by_contra hn
  exact hpos (if_neg fun h => hn h.1)

/-- A device may wait on a cell below every cell it still owes. -/
theorem mayWait (c : Dev nD) (sm : SemLoc sig) (n : ℕ) (h : ∀ t, n ≤ t → t < 35 → lv ((c : Thread nD τ), sm) () < dlv t) :
    (levAts L lv : sProp 𝕄) ⊢ MayWait (c : Thread nD τ) sm () (owed c n) := by
  refine MayOwe.of_cut (L := L) (lev := lv) (lv ((c : Thread nD τ), sm) ())
    (fun p hp => by rw [Finset.mem_singleton.mp hp, L_tc]; exact Finset.mem_singleton_self _)
    (fun g u hg => by obtain ⟨t, _, _, rfl⟩ := owed_pos hg; rw [dcell_tc]; exact Finset.mem_singleton_self _)
    (fun p hp => by rw [Finset.mem_singleton.mp hp])
    (fun g u hg => by obtain ⟨t, h1, h2, rfl⟩ := owed_pos hg; rw [lv_dcell]; exact h t h1 h2)

theorem mayWait_zero (c : Dev nD) (sm : SemLoc sig) (n : ℕ) (h : lv ((c : Thread nD τ), sm) () = 0) :
    (levAts L lv : sProp 𝕄) ⊢ MayWait (c : Thread nD τ) sm () (owed c n) :=
  mayWait c sm n fun t _ _ => by rw [h]; unfold dlv; split <;> [decide; (split <;> decide)]
theorem mayWait_bar (c : Dev nD) : (levAts L lv : sProp 𝕄) ⊢ MayWait (c : Thread nD τ) (.reg barS) () (owed c 7) :=
  mayWait c _ 7 fun t h1 _ => by rw [lv_bar]; unfold dlv; rw [if_neg (by omega)]; split <;> decide
/-- Which waits on a transfer's semaphore are allowed once the payments below `n` are made. -/
theorem mayWait_x (c : Dev nD) (a : Fin 4) (h : Fin 2) (k : Fin 7) (n : ℕ) (hn : (match a with | 0 => 0 | 1 => 21 | 2 => 0 | 3 => 35) ≤ n) :
    (levAts L lv : sProp 𝕄) ⊢ MayWait (c : Thread nD τ) (.dma (xs a h k)) () (owed c n) :=
  mayWait c _ n fun t h1 h2 => by
    rw [lv_x]
    unfold dlv
    fin_cases a <;> simp only [] at hn ⊢ <;> (repeat' split) <;> first | omega | decide

end Cert.Mesh
-- ==== Proof.Steps.lean ====
/-
One rule for each kind of step the kernel takes, at any device, half and message.
-/
module

public import proofs.«01_k».proof.Proof.Protocol

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` on device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What everybody may know: each cell's invariant, that each is at round 0 at least, and the levels. -/
def recs (K : Dev nD × CI → ℕ) : sProp 𝕄 :=
  iprop(bigSep Finset.univ (fun p : Dev nD × CI => cellInv ER (rd m) (K p) (kcell p))
    ∗ bigSep Finset.univ (fun p : Dev nD × CI => reached ER (kcell p) 0) ∗ levAts L lv)

instance recs_persistent (K : Dev nD × CI → ℕ) : BI.Persistent (recs m K) := by
  unfold recs
  infer_instance

theorem recs_inv (K : Dev nD × CI → ℕ) (p : Dev nD × CI) : recs m K ⊢ cellInv ER (rd m) (K p) (kcell p) := by
  have h : (bigSep Finset.univ (fun p : Dev nD × CI => cellInv ER (rd m) (K p) (kcell p)) : sProp 𝕄) ⊢ cellInv ER (rd m) (K p) (kcell p) :=
    bigSep_elim (Finset.mem_univ p)
  unfold recs
  iintro ⟨H, -, -⟩
  iapply h $$ H
theorem recs_reached (K : Dev nD × CI → ℕ) (p : Dev nD × CI) : recs m K ⊢ reached ER (kcell p) 0 := by
  have h : (bigSep Finset.univ (fun p : Dev nD × CI => reached ER (kcell p) 0) : sProp 𝕄) ⊢ reached ER (kcell p) 0 :=
    bigSep_elim (Finset.mem_univ p)
  unfold recs
  iintro ⟨-, H, -⟩
  iapply h $$ H
theorem recs_lev (K : Dev nD × CI → ℕ) : recs m K ⊢ levAts L lv := by
  unfold recs
  iintro ⟨-, -, H⟩
  iexact H

/-- Device `c` still owes its payments from the `n`-th on. -/
def owesE (c : Dev nD) (n : ℕ) : sProp 𝕄 := iprop(∃ W, owes (c : Thread nD τ) (owed c n) W)

variable (K : Dev nD × CI → ℕ) (c : Dev nD)

/-- The barrier signal number `k`. -/
theorem step_signal (k : Fin 7) {n : Dev nD} (hn : n = fwd c k) {amt : ℕ} (ha : amt = 1)
    {α : Type} {Q : α → sProp 𝕄} {kont : PUnit → Prog (TpuEff nD τ sig (Elt F) Λ₀ .tc) α} :
    recs m K ⊢ iprop(owesE c k.val -∗ dutyTok ER (barCell (fwd c k)) 0 k -∗ barPay (fwd c k) k
      -∗ (owesE c (k.val + 1) -∗ WP c (kont ⟨⟩) Q)
      -∗ WP c (.op (.semSignal (Dev.tc n : Thread nD τ) barS amt) kont) Q) := by
  subst hn ha
  iintro #HR HO Ht Hp Hk
  unfold owesE
  icases HO with ⟨%W, HO⟩
  iapply (Rounds.wp_signal (Q := Q) 𝒱₀ ER (rd m) (c : Thread nD τ) none (dst := (fwd c k : Thread nD τ)) (κ := K (fwd c k, .inl ()))
      (d := k) (r := 0) (by rw [duties_bar]; exact Finset.mem_univ _) (amount_bar m (fwd c k) k) () (O₀ := owed c k.val) (owed c (k.val + 1))
      (by rw [owed_succ c k.val (by omega), dcell_bar, damt_bar]) (W := W)) $$ [HO Ht Hp]
  · isplitr; · iapply (recs_inv m K (fwd c k, .inl ())) $$ HR
    isplitl [HO]; · iexact HO
    isplitl [Ht]; · iexact Ht
    isplitl [Hp]; · rw [payload_bar]; iexact Hp
    iapply (recs_reached m K (fwd c k, .inl ())) $$ HR
  iintro HO
  iapply Hk
  iexists W; iexact HO

/-- The wait on the barrier: what every other device's signal hands over. -/
theorem step_wait_bar {amt : ℕ} (ha : amt = 7) {α : Type} {Q : α → sProp 𝕄} {kont : PUnit → Prog (TpuEff nD τ sig (Elt F) Λ₀ .tc) α} :
    recs m K ⊢ iprop(owesE c 7 -∗ atPos ER (barCell c) 0 ∅ 0 -∗ cred (tallyAt (barCell c) () 7)
      -∗ ((owesE c 7 ∗ atPos ER (barCell c) 1 ∅ 0 ∗ bigSep Finset.univ (fun k => barPay c k)) -∗ WP c (kont ⟨⟩) Q)
      -∗ WP c (.op (.semWait barS amt) kont) Q) := by
  subst ha
  iintro #HR HO Hat Hc Hk
  unfold owesE
  icases HO with ⟨%W, HO⟩
  iapply (Rounds.wp_wait_rest_token (Q := Q) 𝒱₀ ER (rd m) (c : Thread nD τ) none (κ := K (c, .inl ()))
      (wpE_semWait_eq 𝒱₀ (c : Thread nD τ) none Set.univ) (Set.mem_univ _) () (O := owed c 7) (W := W) (R := 0) (m := 0) (T := ∅)
      (by rw [expect_bar])) $$ [Hc HO Hat]
  · isplitr; · iapply (recs_inv m K (c, .inl ())) $$ HR
    isplitl [Hc]; · iexact Hc
    isplitl [HO]; · iexact HO
    isplitr
    · iapply (mayWait_bar c)
      iapply (recs_lev m K) $$ HR
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-- The wait on a transfer's semaphore, once the payments below the cell's level are made: what the schedule says it
    hands over. -/
theorem step_wait_x (a : Fin 4) (h : Fin 2) (k : Fin 7) (n : ℕ) (hn : (match a with | 0 => 0 | 1 => 21 | 2 => 0 | 3 => 35) ≤ n)
    {q : DmaSem sig} (hq : q = xs a h k)
    {sp sp' : Space} {S S' : Shape} {e e' : EltTy} {srcw : Memref sig .tc sp S e} {dstw : Memref sig .tc sp' S' e'}
    {hsrc : srcw.view.WordExact} {hdst : dstw.view.WordExact} (hN : dstw.view.dmaCredit = N)
    {α : Type} {Q : α → sProp 𝕄} {kont : PUnit → Prog (TpuEff nD τ sig (Elt F) Λ₀ .tc) α} :
    recs m K ⊢ iprop(owesE c n -∗ atPos ER (xCell c a h k) 0 ∅ 0 -∗ cred (tallyAt (xCell c a h k) () N)
      -∗ ((owesE c n ∗ atPos ER (xCell c a h k) 1 ∅ 0 ∗ xPay m c a h k) -∗ WP c (kont ⟨⟩) Q)
      -∗ WP c (.op (.waitDma2 q srcw dstw hsrc hdst) kont) Q) := by
  subst hq
  iintro #HR HO Hat Hc Hk
  unfold owesE
  icases HO with ⟨%W, HO⟩
  iapply (Rounds.wp_wait_rest_token (Q := Q) 𝒱₀ ER (rd m) (c : Thread nD τ) none (κ := K (c, .inr (a, h, k)))
      (wpE_waitDma2_eq 𝒱₀ (c : Thread nD τ) none Set.univ) (Set.mem_univ _) () (O := owed c n) (W := W) (R := 0) (m := 0) (T := ∅)
      (by rw [Nat.zero_add, expect_x, hN])) $$ [Hc HO Hat]
  · isplitr; · iapply (recs_inv m K (c, .inr (a, h, k))) $$ HR
    isplitl [Hc]; · rw [hN]; iexact Hc
    isplitl [HO]; · iexact HO
    isplitr
    · iapply (mayWait_x c a h k n hn)
      iapply (recs_lev m K) $$ HR
    iexact Hat
  iintro ⟨HO, Hat, -, Hp⟩
  ihave Hp := (Entails.of_eq (rest_x m c a h k)) $$ Hp
  iapply Hk
  isplitl [HO]; · iexists _; iexact HO
  isplitl [Hat]; · iexact Hat
  iexact Hp

/-- What sending message `k` of half `h` of the reduce-scatter takes. -/
def rsRes (h : Fin 2) (k : Fin 7) : sProp 𝕄 :=
  iprop(owns (c : Thread nD τ) (pBlk h (fwd c k)) fullShare (blk m c h (fwd c k)) ∗ anyAt (fwd c k) (rsSlot h k)
    ∗ dutyTok ER (xCell c 0 h k) 0 (0 : Fin 7) ∗ dutyTok ER (xCell (fwd c k) 1 h k) 0 (0 : Fin 7))
/-- What sending message `k` of half `h` of the all-gather takes. -/
def agRes (h : Fin 2) (k : Fin 7) : sProp 𝕄 :=
  iprop(owns (c : Thread nD τ) (agSlot h c) (q7 k) (agV m c h) ∗ anyAt (fwd c k) (agSlot h c)
    ∗ dutyTok ER (xCell c 2 h k) 0 (0 : Fin 7) ∗ dutyTok ER (xCell (fwd c k) 3 h k) 0 (0 : Fin 7))

theorem amount_rs (h : Fin 2) (k : Fin 7) (s : DmaSem sig) : (rsSlot h k).view.amount (.dma s) = N := rfl
theorem amount_ag (h : Fin 2) (j : Fin 8) (s : DmaSem sig) : (agSlot h j).view.amount (.dma s) = N := rfl

/-- What a message's source and landing hold is what the schedule says. -/
theorem rs_src (h : Fin 2) (k : Fin 7) {fs : Buf (Elt F) ((pBlk h (fwd c k)).view.loc (c : Thread nD τ))}
    (hfs : (pBlk h (fwd c k)).view.read (Elt F) fs = blk m c h (fwd c k)) :
    ((pBlk h (fwd c k)).view.loc (c : Thread nD τ) ↦[(pBlk h (fwd c k)).view.set]{fullShare} fs) ⊢ (rd m).payload (xCell c 0 h k) 0 (0 : Fin 7) := by
  rw [payload_x]
  exact (owns_intro (c : Thread nD τ) (pBlk h (fwd c k)) fullShare fs).trans (Entails.of_eq (congrArg (owns _ _ _) hfs))
theorem rs_dst (h : Fin 2) (k : Fin 7) {v : S64x256.Idx → Elt F .bf16} (hv : v = blk m c h (fwd c k))
    (fd : Buf (Elt F) ((rsSlot h k).view.loc (fwd c k : Thread nD τ))) :
    ((rsSlot h k).view.loc (fwd c k : Thread nD τ) ↦[(rsSlot h k).view.set]{fullShare} ((rsSlot h k).view.write (Elt F) fd v Finset.univ))
      ⊢ (rd m).payload (xCell (fwd c k) 1 h k) 0 (0 : Fin 7) := by
  rw [payload_x]
  refine (owns_intro (fwd c k : Thread nD τ) (rsSlot h k) fullShare _).trans (Entails.of_eq (congrArg (owns _ _ _) ?_))
  rw [View.read_write_univ, bwd_fwd, hv]
theorem ag_src (h : Fin 2) (k : Fin 7) {fs : Buf (Elt F) ((agSlot h c).view.loc (c : Thread nD τ))}
    (hfs : (agSlot h c).view.read (Elt F) fs = agV m c h) :
    ((agSlot h c).view.loc (c : Thread nD τ) ↦[(agSlot h c).view.set]{q7 k} fs) ⊢ (rd m).payload (xCell c 2 h k) 0 (0 : Fin 7) := by
  rw [payload_x]
  exact (owns_intro (c : Thread nD τ) (agSlot h c) (q7 k) fs).trans (Entails.of_eq (congrArg (owns _ _ _) hfs))
theorem ag_dst (h : Fin 2) (k : Fin 7) {v : S64x256.Idx → Elt F .bf16} (hv : v = agV m c h)
    (fd : Buf (Elt F) ((agSlot h c).view.loc (fwd c k : Thread nD τ))) :
    ((agSlot h c).view.loc (fwd c k : Thread nD τ) ↦[(agSlot h c).view.set]{fullShare} ((agSlot h c).view.write (Elt F) fd v Finset.univ))
      ⊢ (rd m).payload (xCell (fwd c k) 3 h k) 0 (0 : Fin 7) := by
  rw [payload_x]
  have key : ∀ d, d = c → ((agSlot h c).view.loc (fwd c k : Thread nD τ) ↦[(agSlot h c).view.set]{fullShare} ((agSlot h c).view.write (Elt F) fd v Finset.univ) : sProp 𝕄)
      ⊢ owns (Val := Elt F) (fwd c k : Thread nD τ) (agSlot h d) fullShare (agV m d h) := by
    rintro d rfl
    refine (owns_intro (fwd d k : Thread nD τ) (agSlot h d) fullShare _).trans (Entails.of_eq (congrArg (owns _ _ _) ?_))
    rw [View.read_write_univ, hv]
  exact key _ (bwd_fwd c k)

/-- Sending message `k` of half `h` of the reduce-scatter. -/
theorem step_send_rs (h : Fin 2) (k : Fin 7) {n : Dev nD} (hn : n = fwd c k)
    {off : Fin 3 → ℕ} {inb : ∀ a, off a + S1x64x256.size a ≤ S2x512x256.size a} {hu : ∀ a, (Rect.unit (s := S2x512x256) off S1x64x256.size inb).stride a = 1}
    {hsq : S1x64x256.Squeezes S64x256} (hoff : off = ![h.val, 64 * (fwd c k).val, 0])
    {offd : Fin 4 → ℕ} {inbd : ∀ a, offd a + S1x1x64x256.size a ≤ S2x7x64x256.size a} {hud : ∀ a, (Rect.unit (s := S2x7x64x256) offd S1x1x64x256.size inbd).stride a = 1}
    {hsqd : S1x1x64x256.Squeezes S64x256} (hoffd : offd = ![h.val, k.val, 0, 0])
    {sS sR : DmaSem sig} (hS : sS = xs 0 h k) (hR : sR = xs 1 h k)
    {hsc : ((rM.slice (Rect.unit (s := S2x7x64x256) offd S1x1x64x256.size inbd) hud).squeeze S64x256 hsqd : Memref sig (Dev.tc n : Thread nD τ).2.kind .vmem S64x256 .bf16).view.ref.isScScratch = false}
    {hsrc : ((pM.slice (Rect.unit (s := S2x512x256) off S1x64x256.size inb) hu).squeeze S64x256 hsq).view.WordExact}
    {hdst : ((rM.slice (Rect.unit (s := S2x7x64x256) offd S1x1x64x256.size inbd) hud).squeeze S64x256 hsqd).view.WordExact}
    {hsem : DmaTarget.Typed .vmem (.dma sR) (.remote (Dev.tc n : Thread nD τ) ((rM.slice (Rect.unit (s := S2x7x64x256) offd S1x1x64x256.size inbd) hud).squeeze S64x256 hsqd) (.dma sS) hsc)}
    {α : Type} {Q : α → sProp 𝕄} {kont : PUnit → Prog (TpuEff nD τ sig (Elt F) Λ₀ .tc) α} :
    recs m K ⊢ iprop(owesE c (7 + 7 * h.val + k.val) -∗ rsRes m c h k
      -∗ ((cred (tallyAt (xCell c 0 h k) () N) ∗ owesE c (7 + 7 * h.val + k.val + 1)) -∗ WP c (kont ⟨⟩) Q)
      -∗ WP c (.op (.enqueueDma ((pM.slice (Rect.unit (s := S2x512x256) off S1x64x256.size inb) hu).squeeze S64x256 hsq)
        (.remote (Dev.tc n : Thread nD τ) ((rM.slice (Rect.unit (s := S2x7x64x256) offd S1x1x64x256.size inbd) hud).squeeze S64x256 hsqd) (.dma sS) hsc)
        (.dma sR) hsrc hdst hsem) kont) Q) := by
  subst hn hoff hoffd hS hR
  have hk := k.isLt; have hh := h.isLt
  iintro #HR HO Hres Hk
  unfold owesE rsRes owns anyAt
  icases HO with ⟨%W, HO⟩
  icases Hres with ⟨⟨%fs, %hfs, Hs⟩, ⟨%fd, Hd⟩, Ht1, Ht2⟩
  iapply (Rounds.wp_send_pointsTo (Q := Q) 𝒱₀ ER (rd m) (c : Thread nD τ) none (κ₁ := K (c, .inr (0, h, k))) (κ₂ := K (fwd c k, .inr (1, h, k)))
    (c' := (fwd c k : Thread nD τ)) (src := pBlk h (fwd c k)) (dst := rsSlot h k)
    (r₁ := 0) (r₂ := 0) (d₁ := (0 : Fin 7)) (d₂ := (0 : Fin 7)) (fs := fs) (fd := fd) (q := fullShare)
    (by rw [duties_x]; exact Finset.mem_singleton_self _) (by rw [duties_x]; exact Finset.mem_singleton_self _)
    () () N (amount_rs h k _) (amount_x m c 0 h k 0) (amount_x m (fwd c k) 1 h k 0) (O₀ := owed c (7 + 7 * h.val + k.val)) (owed c (7 + 7 * h.val + k.val + 1))
    (by rw [owed_succ c _ (by omega), dcell_rs, damt_x _ (by omega)]) (W := W)
    (rs_src m c h k hfs) (rs_dst m c h k hfs fd)) $$ [HO Hs Hd Ht1 Ht2]
  · isplitr; · iapply (recs_inv m K (c, .inr (0, h, k))) $$ HR
    isplitr; · iapply (recs_inv m K (fwd c k, .inr (1, h, k))) $$ HR
    isplitl [Hs]; · iexact Hs
    isplitl [Hd]; · iexact Hd
    isplitl [HO]; · iexact HO
    isplitl [Ht1]; · iexact Ht1
    isplitr; · iapply (recs_reached m K (c, .inr (0, h, k))) $$ HR
    isplitl [Ht2]; · iexact Ht2
    iapply (recs_reached m K (fwd c k, .inr (1, h, k))) $$ HR
  iintro ⟨Hc, HO⟩
  iapply Hk
  isplitl [Hc]; · iexact Hc
  iexists W; iexact HO

/-- Sending message `k` of half `h` of the all-gather. -/
theorem step_send_ag (h : Fin 2) (k : Fin 7) {n : Dev nD} (hn : n = fwd c k)
    {off : Fin 4 → ℕ} {inb : ∀ a, off a + S1x1x64x256.size a ≤ S2x8x64x256.size a} {hu : ∀ a, (Rect.unit (s := S2x8x64x256) off S1x1x64x256.size inb).stride a = 1}
    {hsq : S1x1x64x256.Squeezes S64x256} (hoff : off = ![h.val, c.val, 0, 0])
    {inbd : ∀ a, off a + S1x1x64x256.size a ≤ S2x8x64x256.size a} {hud : ∀ a, (Rect.unit (s := S2x8x64x256) off S1x1x64x256.size inbd).stride a = 1}
    {hsqd : S1x1x64x256.Squeezes S64x256}
    {sS sR : DmaSem sig} (hS : sS = xs 2 h k) (hR : sR = xs 3 h k)
    {hsc : ((gM.slice (Rect.unit (s := S2x8x64x256) off S1x1x64x256.size inbd) hud).squeeze S64x256 hsqd : Memref sig (Dev.tc n : Thread nD τ).2.kind .vmem S64x256 .bf16).view.ref.isScScratch = false}
    {hsrc : ((gM.slice (Rect.unit (s := S2x8x64x256) off S1x1x64x256.size inb) hu).squeeze S64x256 hsq).view.WordExact}
    {hdst : ((gM.slice (Rect.unit (s := S2x8x64x256) off S1x1x64x256.size inbd) hud).squeeze S64x256 hsqd).view.WordExact}
    {hsem : DmaTarget.Typed .vmem (.dma sR) (.remote (Dev.tc n : Thread nD τ) ((gM.slice (Rect.unit (s := S2x8x64x256) off S1x1x64x256.size inbd) hud).squeeze S64x256 hsqd) (.dma sS) hsc)}
    {α : Type} {Q : α → sProp 𝕄} {kont : PUnit → Prog (TpuEff nD τ sig (Elt F) Λ₀ .tc) α} :
    recs m K ⊢ iprop(owesE c (21 + 7 * h.val + k.val) -∗ agRes m c h k
      -∗ ((cred (tallyAt (xCell c 2 h k) () N) ∗ owesE c (21 + 7 * h.val + k.val + 1)) -∗ WP c (kont ⟨⟩) Q)
      -∗ WP c (.op (.enqueueDma ((gM.slice (Rect.unit (s := S2x8x64x256) off S1x1x64x256.size inb) hu).squeeze S64x256 hsq)
        (.remote (Dev.tc n : Thread nD τ) ((gM.slice (Rect.unit (s := S2x8x64x256) off S1x1x64x256.size inbd) hud).squeeze S64x256 hsqd) (.dma sS) hsc)
        (.dma sR) hsrc hdst hsem) kont) Q) := by
  subst hn hoff hS hR
  have hk := k.isLt; have hh := h.isLt
  iintro #HR HO Hres Hk
  unfold owesE agRes owns anyAt
  icases HO with ⟨%W, HO⟩
  icases Hres with ⟨⟨%fs, %hfs, Hs⟩, ⟨%fd, Hd⟩, Ht1, Ht2⟩
  iapply (Rounds.wp_send_pointsTo (Q := Q) 𝒱₀ ER (rd m) (c : Thread nD τ) none (κ₁ := K (c, .inr (2, h, k))) (κ₂ := K (fwd c k, .inr (3, h, k)))
    (c' := (fwd c k : Thread nD τ)) (src := agSlot h c) (dst := agSlot h c)
    (r₁ := 0) (r₂ := 0) (d₁ := (0 : Fin 7)) (d₂ := (0 : Fin 7)) (fs := fs) (fd := fd) (q := q7 k)
    (by rw [duties_x]; exact Finset.mem_singleton_self _) (by rw [duties_x]; exact Finset.mem_singleton_self _)
    () () N (amount_ag h c _) (amount_x m c 2 h k 0) (amount_x m (fwd c k) 3 h k 0) (O₀ := owed c (21 + 7 * h.val + k.val)) (owed c (21 + 7 * h.val + k.val + 1))
    (by rw [owed_succ c _ (by omega), dcell_ag, damt_x _ (by omega)]) (W := W)
    (ag_src m c h k hfs) (ag_dst m c h k hfs fd)) $$ [HO Hs Hd Ht1 Ht2]
  · isplitr; · iapply (recs_inv m K (c, .inr (2, h, k))) $$ HR
    isplitr; · iapply (recs_inv m K (fwd c k, .inr (3, h, k))) $$ HR
    isplitl [Hs]; · iexact Hs
    isplitl [Hd]; · iexact Hd
    isplitl [HO]; · iexact HO
    isplitl [Ht1]; · iexact Ht1
    isplitr; · iapply (recs_reached m K (c, .inr (2, h, k))) $$ HR
    isplitl [Ht2]; · iexact Ht2
    iapply (recs_reached m K (fwd c k, .inr (3, h, k))) $$ HR
  iintro ⟨Hc, HO⟩
  iapply Hk
  isplitl [Hc]; · iexact Hc
  iexists W; iexact HO

end Cert.Mesh
-- ==== Proof.Loads.lean ====
/-
Loads and stores through one block of a buffer, held as that block alone; the local copies of the weights.
-/
module

public import proofs.«01_k».proof.Proof.Steps
public import Idealize.ShloMosaic.Lib.Pipeline.Value

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

section Block
variable {cs : CoreSpace} {s S' : Shape} {e : EltTy} (M : Memref sig .tc cs s e) (r : Rect s) (hu : ∀ a, r.stride a = 1)

/-- The elements of a block, read through the buffer or through the block itself. -/
theorem setOn_block (h : r.shape.Squeezes S') : M.view.setOn r.toLoadRect.set = ((M.slice r hu).squeeze S' h).view.set :=
  ((M.view.set_slice r).symm).trans ((M.view.slice r).set_reshape h.numel_eq).symm
theorem access_block (h : r.shape.Squeezes S') : (M.access r).set = ((M.slice r hu).squeeze S' h).view.set :=
  ((M.view.slice r).set_reshape h.numel_eq).symm

/-- Reading through the buffer is reading the block in the block's own shape. -/
theorem readAt_block (h : r.shape.Squeezes S') (f : M.view.ty.Contents (Elt F)) :
    M.view.readAt (Elt F) r.toLoadRect f = shapeCast r.shape (((M.slice r hu).squeeze S' h).view.read (Elt F) f) h.numel_eq.symm := by
  have e1 : ((M.slice r hu).squeeze S' h).view.read (Elt F) f = shapeCast S' ((M.view.slice r).read (Elt F) f) h.numel_eq := rfl
  rw [e1, shapeCast_shapeCast]
  rfl

/-- Loading a block that is held. -/
theorem load_sq (h : r.shape.Squeezes S') {q : PosShare TreeShare} {v : S'.Idx → Elt F e} {hl : M.view.LoadsAt r.toLoadRect}
    {α : Type} {Q : α → sProp 𝕄} {kont : (r.toLoadRect.shape.Idx → Elt F e) → Prog (TpuEff nD τ sig (Elt F) Λ₀ .tc) α} :
    (owns (c : Thread nD τ) ((M.slice r hu).squeeze S' h) q v : sProp 𝕄)
      ⊢ iprop((owns (c : Thread nD τ) ((M.slice r hu).squeeze S' h) q v -∗ WP c (kont (shapeCast r.shape v h.numel_eq.symm)) Q)
        -∗ WP c (.op (.load M r.toLoadRect hl) kont) Q) := by
  iintro H Hk
  unfold owns
  icases H with ⟨%f, %hf, H⟩
  iapply (wp_load 𝒱₀ (c : Thread nD τ) none Set.univ (m := M) (Q := Q) (k := kont) (f := f) (q := q) (subset_of_eq (setOn_block M r hu h))) $$ H
  iintro H
  rw [readAt_block M r hu h, hf]
  iapply Hk
  iexists f
  isplitr; · ipureintro; exact hf
  iexact H

/-- Loading a block whose contents do not matter. -/
theorem load_any_sq (h : r.shape.Squeezes S') {hl : M.view.LoadsAt r.toLoadRect}
    {α : Type} {Q : α → sProp 𝕄} {kont : (r.toLoadRect.shape.Idx → Elt F e) → Prog (TpuEff nD τ sig (Elt F) Λ₀ .tc) α} :
    (anyAt c ((M.slice r hu).squeeze S' h) : sProp 𝕄)
      ⊢ iprop((∀ w, anyAt c ((M.slice r hu).squeeze S' h) -∗ WP c (kont w) Q)
        -∗ WP c (.op (.load M r.toLoadRect hl) kont) Q) := by
  iintro H Hk
  unfold anyAt
  icases H with ⟨%f, H⟩
  iapply (wp_load 𝒱₀ (c : Thread nD τ) none Set.univ (m := M) (Q := Q) (k := kont) (f := f) (q := fullShare) (subset_of_eq (setOn_block M r hu h))) $$ H
  iintro H
  iapply Hk $$ %(M.view.readAt (Elt F) r.toLoadRect f)
  iexists f
  iexact H

/-- Storing over a whole block. -/
theorem store_sq (h : r.shape.Squeezes S') {w : r.shape.Idx → Elt F e} {hx : (M.access r).Stores Finset.univ}
    {hm : (Finset.univ : Finset r.shape.Idx) = Finset.univ ∨ ∀ a, r.stride a = 1}
    {α : Type} {Q : α → sProp 𝕄} {kont : PUnit → Prog (TpuEff nD τ sig (Elt F) Λ₀ .tc) α} :
    (anyAt c ((M.slice r hu).squeeze S' h) : sProp 𝕄)
      ⊢ iprop((owns (c : Thread nD τ) ((M.slice r hu).squeeze S' h) fullShare (shapeCast S' w h.numel_eq : S'.Idx → Elt F e) -∗ WP c (kont ⟨⟩) Q)
        -∗ WP c (.op (.store M r w Finset.univ hx hm) kont) Q) := by
  iintro H Hk
  unfold anyAt
  icases H with ⟨%f, H⟩
  iapply (wp_store 𝒱₀ (c : Thread nD τ) none Set.univ (m := M) (r := r) (w := w) (Mk := Finset.univ) (hx := hx) (hm := hm) (Q := Q) (k := kont) (f := f)
    (S := ((M.slice r hu).squeeze S' h).view.set) (subset_of_eq (access_block M r hu h))) $$ H
  iintro H
  iapply Hk
  unfold owns
  iexists ((M.access r).write (Elt F) f w Finset.univ)
  isplitr
  · ipureintro
    have e1 : ((M.slice r hu).squeeze S' h).view.read (Elt F) ((M.access r).write (Elt F) f w Finset.univ)
        = shapeCast S' ((M.access r).read (Elt F) ((M.access r).write (Elt F) f w Finset.univ)) h.numel_eq := rfl
    rw [e1, View.read_write_univ]
  iexact H

/-- The same for a block in the buffer's own rank. -/
theorem load_any_sl {hl : M.view.LoadsAt r.toLoadRect}
    {α : Type} {Q : α → sProp 𝕄} {kont : (r.toLoadRect.shape.Idx → Elt F e) → Prog (TpuEff nD τ sig (Elt F) Λ₀ .tc) α} :
    (anyAt c (M.slice r hu) : sProp 𝕄)
      ⊢ iprop((∀ w, anyAt c (M.slice r hu) -∗ WP c (kont w) Q)
        -∗ WP c (.op (.load M r.toLoadRect hl) kont) Q) := by
  iintro H Hk
  unfold anyAt
  icases H with ⟨%f, H⟩
  iapply (wp_load 𝒱₀ (c : Thread nD τ) none Set.univ (m := M) (Q := Q) (k := kont) (f := f) (q := fullShare)
    (S := (M.slice r hu).view.set) (subset_of_eq (M.view.set_slice r).symm)) $$ H
  iintro H
  iapply Hk $$ %(M.view.readAt (Elt F) r.toLoadRect f)
  iexists f
  iexact H
theorem store_sl {w : r.shape.Idx → Elt F e} {hx : (M.access r).Stores Finset.univ}
    {hm : (Finset.univ : Finset r.shape.Idx) = Finset.univ ∨ ∀ a, r.stride a = 1}
    {α : Type} {Q : α → sProp 𝕄} {kont : PUnit → Prog (TpuEff nD τ sig (Elt F) Λ₀ .tc) α} :
    (anyAt c (M.slice r hu) : sProp 𝕄)
      ⊢ iprop((owns (c : Thread nD τ) (M.slice r hu) fullShare w -∗ WP c (kont ⟨⟩) Q)
        -∗ WP c (.op (.store M r w Finset.univ hx hm) kont) Q) := by
  iintro H Hk
  unfold anyAt
  icases H with ⟨%f, H⟩
  iapply (wp_store 𝒱₀ (c : Thread nD τ) none Set.univ (m := M) (r := r) (w := w) (Mk := Finset.univ) (hx := hx) (hm := hm) (Q := Q) (k := kont) (f := f)
    (S := (M.slice r hu).view.set) (subset_of_eq rfl)) $$ H
  iintro H
  iapply Hk
  unfold owns
  iexists ((M.access r).write (Elt F) f w Finset.univ)
  isplitr
  · ipureintro
    exact View.read_write_univ (v := M.access r) f w
  iexact H

end Block

theorem owns_any {c : Dev nD} {sp : Space} {S : Shape} {e : EltTy} {M : Memref sig .tc sp S e} {v : S.Idx → Elt F e} :
    (owns (c : Thread nD τ) M fullShare v : sProp 𝕄) ⊢ anyAt c M := by
  unfold owns anyAt
  iintro ⟨%f, %hf, H⟩
  iexists f
  iexact H

/-- Loading a whole buffer. -/
theorem load_full {cs : CoreSpace} {i : Fin (sig.nNear .tc cs)} {hκ : sig.names .tc cs i = true} {q : PosShare TreeShare}
    {v : (Memref.whole ⟨cs, i, hκ⟩ : Memref sig .tc _ _ _).view.ty.shape.Idx → Elt F (sig.tyNear .tc cs i).elt}
    {off : Fin (sig.tyNear .tc cs i).shape.rank → ℕ} {inb} (ho : off = fun _ => 0) {hl}
    {α : Type} {Q : α → sProp 𝕄} {kont : _ → Prog (TpuEff nD τ sig (Elt F) Λ₀ .tc) α} :
    (owns (c : Thread nD τ) (Memref.whole ⟨cs, i, hκ⟩) q v : sProp 𝕄)
      ⊢ iprop((owns (c : Thread nD τ) (Memref.whole ⟨cs, i, hκ⟩) q v -∗ WP c (kont v) Q)
        -∗ WP c (.op (.load (Memref.whole ⟨cs, i, hκ⟩) (Rect.unit off (sig.tyNear .tc cs i).shape.size inb).toLoadRect hl) kont) Q) := by
  iintro H Hk
  unfold owns
  icases H with ⟨%f, %hf, H⟩
  iapply (wp_load 𝒱₀ (c : Thread nD τ) none Set.univ (m := Memref.whole ⟨cs, i, hκ⟩) (Q := Q) (k := kont) (f := f) (q := q)
    (S := (Memref.whole ⟨cs, i, hκ⟩ : Memref sig .tc _ _ _).view.set) (by rw [Memref.view_whole, View.set_whole]; exact Finset.subset_univ _)) $$ H
  iintro H
  rw [Memref.readAt_unit_zero (Elt F) _ ho]
  have hf' : f = v := hf
  subst hf'
  iapply Hk
  iexists f
  isplitr; · ipureintro; exact hf
  iexact H

/-! ## Copies between two buffers of the device -/

/-- A copy of `v` from `src` to `dst` is under way. -/
def copying {sp sp' : Space} {S : Shape} {e : EltTy} (src : Memref sig .tc sp S e) (dst : Memref sig .tc sp' S e) (sm : DmaSem sig)
    (v : S.Idx → Elt F e) : sProp 𝕄 :=
  iprop(∃ (fs : Buf (Elt F) (src.view.loc (c : Thread nD τ))) (fd : Buf (Elt F) (dst.view.loc (c : Thread nD τ))), ⌜src.view.read (Elt F) fs = v⌝
    ∗ Transfers.Flight EC (c : Thread nD τ) (.dma sm) () (dst.view.amount (.dma sm))
      iprop((dst.view.loc (c : Thread nD τ) ↦[dst.view.set]{fullShare} (dst.view.write (Elt F) fd (src.view.read (Elt F) fs) Finset.univ))
        ∗ (src.view.loc (c : Thread nD τ) ↦[src.view.set]{fullShare} fs)))

/-- Starting a local copy. -/
theorem copy_start {sp sp' : Space} {S : Shape} {e : EltTy} {src : Memref sig .tc sp S e} {dst : Memref sig .tc sp' S e} {sm sm' : DmaSem sig}
    (hsm : sm' = sm) {v : S.Idx → Elt F e} (hp : 0 < dst.view.amount (.dma sm))
    {hsrc : src.view.WordExact} {hdst : dst.view.WordExact} {hsem : DmaTarget.Typed (nD := nD) (p := (c : Thread nD τ).2) sp (.dma sm') (DmaTarget.here (p := (c : Thread nD τ).2) dst)}
    {α : Type} {Q : α → sProp 𝕄} {kont : PUnit → Prog (TpuEff nD τ sig (Elt F) Λ₀ .tc) α} :
    (owns (c : Thread nD τ) src fullShare v : sProp 𝕄)
      ⊢ iprop(anyAt c dst -∗ semVal ((c : Thread nD τ), SemLoc.dma sm) 0 -∗ (copying c src dst sm v -∗ WP c (kont ⟨⟩) Q)
        -∗ WP c (.op (.enqueueDma src (.here dst) (.dma sm') hsrc hdst hsem) kont) Q) := by
  subst hsm
  iintro Hs Hd Hv Hk
  unfold owns anyAt
  icases Hs with ⟨%fs, %hfs, Hs⟩
  icases Hd with ⟨%fd, Hd⟩
  iapply (Transfers.wp_dmaLocal EC 𝒱₀ (c : Thread nD τ) none (Q := Q) (src := src) (dst := dst) (sm := .dma sm') (k := kont) (q := fullShare) (fs := fs) (fd := fd)
    (Sd := dst.view.set) () (dst.view.amount (.dma sm')) rfl hp (subset_of_eq rfl)) $$ [Hs Hd Hv]
  · isplitl [Hs]; · iexact Hs
    isplitl [Hd]; · iexact Hd
    iexact Hv
  iintro HF
  iapply Hk
  unfold copying
  iexists fs
  iexists fd
  isplitr; · ipureintro; exact hfs
  iexact HF

variable (K : Dev nD × CI → ℕ)

/-- Waiting for a local copy. -/
theorem copy_wait {sp sp' : Space} {S : Shape} {e : EltTy} {src : Memref sig .tc sp S e} {dst : Memref sig .tc sp' S e} {sm sm' : DmaSem sig}
    (hsm : sm' = sm) {v : S.Idx → Elt F e} (n : ℕ) (hl : lv ((c : Thread nD τ), SemLoc.dma sm) () = 0)
    {spw spw' : Space} {Sw Sw' : Shape} {ew ew' : EltTy} {srcw : Memref sig .tc spw Sw ew} {dstw : Memref sig .tc spw' Sw' ew'}
    {hsrc : srcw.view.WordExact} {hdst : dstw.view.WordExact} (hN : dstw.view.dmaCredit = dst.view.amount (.dma sm))
    {α : Type} {Q : α → sProp 𝕄} {kont : PUnit → Prog (TpuEff nD τ sig (Elt F) Λ₀ .tc) α} :
    recs m K ⊢ iprop(owesE c n -∗ copying c src dst sm v
      -∗ ((owesE c n ∗ owns (c : Thread nD τ) dst fullShare v ∗ owns (c : Thread nD τ) src fullShare v
          ∗ semVal ((c : Thread nD τ), SemLoc.dma sm) 0) -∗ WP c (kont ⟨⟩) Q)
      -∗ WP c (.op (.waitDma2 sm' srcw dstw hsrc hdst) kont) Q) := by
  subst hsm
  iintro #HR HO HF Hk
  unfold owesE copying
  icases HO with ⟨%W, HO⟩
  icases HF with ⟨%fs, %fd, %hfs, HF⟩
  iapply (Transfers.wp_waitLocalO EC 𝒱₀ (c : Thread nD τ) none (Q := Q) (k := kont) () hN (O := owed c n) (W := W)) $$ [HO HF]
  · isplitl [HF]; · iexact HF
    isplitl [HO]; · iexact HO
    iapply (mayWait_zero c _ n hl)
    iapply (recs_lev m K) $$ HR
  iintro ⟨⟨Hd, Hs⟩, Hv, HO⟩
  iapply Hk
  isplitl [HO]; · iexists _; iexact HO
  isplitl [Hd]
  · unfold owns
    iexists _
    isplitr
    swap
    · iexact Hd
    ipureintro
    rw [View.read_write_univ, hfs]
  isplitl [Hs]
  · unfold owns
    iexists fs
    isplitr; · ipureintro; exact hfs
    iexact Hs
  iexact Hv

end Cert.Mesh
-- ==== Proof.Split.lean ====
/-
A buffer dealt into its blocks, and gathered again from them.
-/
module

public import proofs.«01_k».proof.Proof.Loads
public import Idealize.ShloMosaic.Lib.ValueLayout

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

variable (c : Dev nD)

/-! ## Sets of elements -/

section Parts
variable {ι : Type} [Fintype ι] [DecidableEq ι] {ℓ : Loc nD τ sig} {S : Finset (Idx ℓ)} {P : ι → Finset (Idx ℓ)} (key : Idx ℓ → ι)

theorem parts_disjoint (h : ∀ i x, x ∈ P i ↔ x ∈ S ∧ key x = i) :
    ∀ t ∈ (Finset.univ : Finset ι), ∀ t' ∈ (Finset.univ : Finset ι), t ≠ t' → Disjoint (P t) (P t') := fun t _ t' _ hne =>
  Finset.disjoint_left.mpr fun x hx hx' => hne (((h t x).mp hx).2.symm.trans ((h t' x).mp hx').2)
theorem parts_union (h : ∀ i x, x ∈ P i ↔ x ∈ S ∧ key x = i) : (Finset.univ : Finset ι).biUnion P = S := by
  ext x
  rw [Finset.mem_biUnion]
  exact ⟨fun ⟨i, _, hx⟩ => ((h i x).mp hx).1, fun hx => ⟨key x, Finset.mem_univ _, (h _ x).mpr ⟨hx, rfl⟩⟩⟩

/-- Elements sorted by a key: what holds them all holds those of each key. -/
theorem deal (h : ∀ i x, x ∈ P i ↔ x ∈ S ∧ key x = i) (q : PosShare TreeShare) (f : Buf (Elt F) ℓ) :
    (ℓ ↦[S]{q} f : sProp 𝕄) ⊢ bigSep Finset.univ (fun i => ℓ ↦[P i]{q} f) := by
  rw [← pointsTo_biUnion Finset.univ P (parts_disjoint key h), parts_union key h]
/-- The converse, where every part has contents of its own. -/
theorem gather (h : ∀ i x, x ∈ P i ↔ x ∈ S ∧ key x = i) (R : (i : ι) → Buf (Elt F) ℓ → Prop) (f₀ : Buf (Elt F) ℓ) :
    (bigSep Finset.univ (fun i => iprop(∃ f : Buf (Elt F) ℓ, ⌜R i f⌝ ∗ ℓ ↦[P i]{fullShare} f)) : sProp 𝕄)
      ⊢ iprop(∃ g : Buf (Elt F) ℓ, ⌜∃ fs : ι → Buf (Elt F) ℓ, (∀ i, R i (fs i)) ∧ ∀ i, ∀ x ∈ P i, g x = fs i x⌝ ∗ ℓ ↦[S]{fullShare} g) := by
  have : Nonempty (Buf (Elt F) ℓ) := ⟨f₀⟩
  refine (BI.bigSep_exists_pi Finset.univ (fun i (f : Buf (Elt F) ℓ) => iprop(⌜R i f⌝ ∗ ℓ ↦[P i]{fullShare} f))).trans ?_
  iintro ⟨%fs, H⟩
  ihave H := (BI.bigSep_pure_sep Finset.univ (fun i => R i (fs i)) (fun i => ℓ ↦[P i]{fullShare} fs i)) $$ H
  icases H with ⟨%hR, H⟩
  ihave H := (pointsTo_biUnion_join Finset.univ P fs f₀ (parts_disjoint key h)) $$ H
  icases H with ⟨%g, %hg, H⟩
  iexists g
  isplitr
  · ipureintro
    exact ⟨fs, fun i => hR i (Finset.mem_univ i), fun i x hx => hg i (Finset.mem_univ i) x hx⟩
  rw [parts_union key h]
  iexact H
end Parts

/-! ## Blocks of a buffer -/

/-- Which elements a block of a whole buffer has, in the buffer's rank or squeezed. -/
theorem mem_sl {b : Ref sig .tc} {off size : Fin b.ty.shape.rank → ℕ} {inb : ∀ a, off a + size a ≤ b.ty.shape.size a}
    (hu : ∀ a, (Rect.unit (s := b.ty.shape) off size inb).stride a = 1) (i : b.ty.shape.Idx) :
    i ∈ ((Memref.whole b).slice (Rect.unit (s := b.ty.shape) off size inb) hu).view.set ↔ ∀ a, off a ≤ (i a).val ∧ (i a).val < off a + size a := by
  have e : ((Memref.whole b).slice (Rect.unit (s := b.ty.shape) off size inb) hu).view.set = (Rect.unit (s := b.ty.shape) off size inb).set :=
    View.set_slice_whole b _
  rw [e]
  exact Rect.mem_set_unit
theorem mem_sq {b : Ref sig .tc} {off size : Fin b.ty.shape.rank → ℕ} {inb : ∀ a, off a + size a ≤ b.ty.shape.size a}
    (hu : ∀ a, (Rect.unit (s := b.ty.shape) off size inb).stride a = 1) {S' : Shape} (h : (Rect.unit (s := b.ty.shape) off size inb).shape.Squeezes S') (i : b.ty.shape.Idx) :
    i ∈ (((Memref.whole b).slice (Rect.unit (s := b.ty.shape) off size inb) hu).squeeze S' h).view.set ↔ ∀ a, off a ≤ (i a).val ∧ (i a).val < off a + size a := by
  have e : (((Memref.whole b).slice (Rect.unit (s := b.ty.shape) off size inb) hu).squeeze S' h).view.set
      = ((Memref.whole b).slice (Rect.unit (s := b.ty.shape) off size inb) hu).view.set :=
    (((Memref.whole b).view.slice _).set_reshape h.numel_eq)
  rw [e]
  exact mem_sl hu i

theorem mem_rs (h : Fin 2) (k : Fin 7) (i : S2x7x64x256.Idx) : i ∈ (rsSlot h k).view.set ↔ (i 0 = h ∧ i 1 = k) := by
  refine (mem_sq (b := cc0_scratch4) (fun _ => rfl) squeezes_S1x1x64x256_S64x256 i).trans ?_
  have h0 : (i 0).val < 2 := (i 0).isLt
  have h1 : (i 1).val < 7 := (i 1).isLt
  have h2 : (i 2).val < 64 := (i 2).isLt
  have h3 : (i 3).val < 256 := (i 3).isLt
  constructor
  · intro H
    have H0 := H 0
    have H1 := H 1
    change h.val ≤ (i 0).val ∧ (i 0).val < h.val + 1 at H0
    change k.val ≤ (i 1).val ∧ (i 1).val < k.val + 1 at H1
    exact ⟨Fin.ext (by omega), Fin.ext (by omega)⟩
  · rintro ⟨e0, e1⟩ a
    have e0' : (i 0).val = h.val := congrArg Fin.val e0
    have e1' : (i 1).val = k.val := congrArg Fin.val e1
    match a with
    | 0 => show h.val ≤ (i 0).val ∧ (i 0).val < h.val + 1; omega
    | 1 => show k.val ≤ (i 1).val ∧ (i 1).val < k.val + 1; omega
    | 2 => show 0 ≤ (i 2).val ∧ (i 2).val < 0 + 64; omega
    | 3 => show 0 ≤ (i 3).val ∧ (i 3).val < 0 + 256; omega

theorem mem_ag (h : Fin 2) (j : Fin 8) (i : S2x8x64x256.Idx) : i ∈ (agSlot h j).view.set ↔ (i 0 = h ∧ i 1 = j) := by
  refine (mem_sq (b := cc0_scratch5) (fun _ => rfl) squeezes_S1x1x64x256_S64x256 i).trans ?_
  have h2 : (i 2).val < 64 := (i 2).isLt
  have h3 : (i 3).val < 256 := (i 3).isLt
  constructor
  · intro H
    have H0 := H 0
    have H1 := H 1
    change h.val ≤ (i 0).val ∧ (i 0).val < h.val + 1 at H0
    change j.val ≤ (i 1).val ∧ (i 1).val < j.val + 1 at H1
    exact ⟨Fin.ext (by omega), Fin.ext (by omega)⟩
  · rintro ⟨e0, e1⟩ a
    have e0' : (i 0).val = h.val := congrArg Fin.val e0
    have e1' : (i 1).val = j.val := congrArg Fin.val e1
    match a with
    | 0 => show h.val ≤ (i 0).val ∧ (i 0).val < h.val + 1; omega
    | 1 => show j.val ≤ (i 1).val ∧ (i 1).val < j.val + 1; omega
    | 2 => show 0 ≤ (i 2).val ∧ (i 2).val < 0 + 64; omega
    | 3 => show 0 ≤ (i 3).val ∧ (i 3).val < 0 + 256; omega

theorem mem_ph (h : Fin 2) (i : S2x512x256.Idx) : i ∈ (pHalf h).view.set ↔ i 0 = h := by
  refine (mem_sq (b := cc0_scratch3) (fun _ => rfl) squeezes_S1x512x256_S512x256 i).trans ?_
  have h1 : (i 1).val < 512 := (i 1).isLt
  have h2 : (i 2).val < 256 := (i 2).isLt
  constructor
  · intro H
    have H0 := H 0
    change h.val ≤ (i 0).val ∧ (i 0).val < h.val + 1 at H0
    exact Fin.ext (by omega)
  · intro e0 a
    have e0' : (i 0).val = h.val := congrArg Fin.val e0
    match a with
    | 0 => show h.val ≤ (i 0).val ∧ (i 0).val < h.val + 1; omega
    | 1 => show 0 ≤ (i 1).val ∧ (i 1).val < 0 + 512; omega
    | 2 => show 0 ≤ (i 2).val ∧ (i 2).val < 0 + 256; omega

theorem mem_pb (h : Fin 2) (j : Fin 8) (i : S2x512x256.Idx) : i ∈ (pBlk h j).view.set ↔ (i 0 = h ∧ (i 1).val / 64 = j.val) := by
  refine (mem_sq (b := cc0_scratch3) (fun _ => rfl) squeezes_S1x64x256_S64x256 i).trans ?_
  have h1 : (i 1).val < 512 := (i 1).isLt
  have h2 : (i 2).val < 256 := (i 2).isLt
  constructor
  · intro H
    have H0 := H 0
    have H1 := H 1
    change h.val ≤ (i 0).val ∧ (i 0).val < h.val + 1 at H0
    change 64 * j.val ≤ (i 1).val ∧ (i 1).val < 64 * j.val + 64 at H1
    exact ⟨Fin.ext (by omega), by omega⟩
  · rintro ⟨e0, e1⟩ a
    have e0' : (i 0).val = h.val := congrArg Fin.val e0
    match a with
    | 0 => show h.val ≤ (i 0).val ∧ (i 0).val < h.val + 1; omega
    | 1 => show 64 * j.val ≤ (i 1).val ∧ (i 1).val < 64 * j.val + 64; omega
    | 2 => show 0 ≤ (i 2).val ∧ (i 2).val < 0 + 256; omega

theorem mem_wdd (h : Fin 2) (i : S2x1024x256.Idx) : i ∈ (wdDst h).view.set ↔ i 0 = h := by
  refine (mem_sq (b := cc0_scratch2) (fun _ => rfl) squeezes_S1x1024x256_S1024x256 i).trans ?_
  have h1 : (i 1).val < 1024 := (i 1).isLt
  have h2 : (i 2).val < 256 := (i 2).isLt
  constructor
  · intro H
    have H0 := H 0
    change h.val ≤ (i 0).val ∧ (i 0).val < h.val + 1 at H0
    exact Fin.ext (by omega)
  · intro e0 a
    have e0' : (i 0).val = h.val := congrArg Fin.val e0
    match a with
    | 0 => show h.val ≤ (i 0).val ∧ (i 0).val < h.val + 1; omega
    | 1 => show 0 ≤ (i 1).val ∧ (i 1).val < 0 + 1024; omega
    | 2 => show 0 ≤ (i 2).val ∧ (i 2).val < 0 + 256; omega

theorem mem_wds (h : Fin 2) (i : S1024x512.Idx) : i ∈ (wdSrc h).view.set ↔ (i 1).val / 256 = h.val := by
  refine (mem_sl (b := main_arg3) (fun _ => rfl) i).trans ?_
  have h0 : (i 0).val < 1024 := (i 0).isLt
  have h1 : (i 1).val < 512 := (i 1).isLt
  constructor
  · intro H
    have H1 := H 1
    change 256 * h.val ≤ (i 1).val ∧ (i 1).val < 256 * h.val + 256 at H1
    omega
  · intro e a
    match a with
    | 0 => show 0 ≤ (i 0).val ∧ (i 0).val < 0 + 1024; omega
    | 1 => show 256 * h.val ≤ (i 1).val ∧ (i 1).val < 256 * h.val + 256; omega

theorem mem_out (h : Fin 2) (j : Fin 8) (i : S512x512.Idx) : i ∈ (outSlot h j).view.set ↔ ((i 1).val / 256 = h.val ∧ (i 0).val / 64 = j.val) := by
  refine (mem_sl (b := cc0_stg1_0) (fun _ => rfl) i).trans ?_
  constructor
  · intro H
    have H0 := H 0
    have H1 := H 1
    change 64 * j.val ≤ (i 0).val ∧ (i 0).val < 64 * j.val + 64 at H0
    change 256 * h.val ≤ (i 1).val ∧ (i 1).val < 256 * h.val + 256 at H1
    exact ⟨by omega, by omega⟩
  · rintro ⟨e, e'⟩ a
    match a with
    | 0 => show 64 * j.val ≤ (i 0).val ∧ (i 0).val < 64 * j.val + 64; omega
    | 1 => show 256 * h.val ≤ (i 1).val ∧ (i 1).val < 256 * h.val + 256; omega

/-! ## The kernel's buffers dealt and gathered -/

theorem any_intro {sp : Space} {S : Shape} {e : EltTy} (M : Memref sig .tc sp S e) (f : Buf (Elt F) (M.view.loc (c : Thread nD τ))) :
    (M.view.loc (c : Thread nD τ) ↦[M.view.set]{fullShare} f : sProp 𝕄) ⊢ anyAt c M := by
  unfold anyAt; iintro H; iexists f; iexact H
/-- A buffer, whole, at any contents. -/
def anyBuf (b : Ref sig .tc) : sProp 𝕄 := iprop(∃ f : Buf (Elt F) ((c : Thread nD τ).loc b), ((c : Thread nD τ).loc b) ↦{fullShare} f)

theorem key_rs (i : Fin 2 × Fin 7) (x : S2x7x64x256.Idx) : x ∈ (rsSlot i.1 i.2).view.set ↔ x ∈ (Finset.univ : Finset S2x7x64x256.Idx) ∧ ((x 0, x 1) : Fin 2 × Fin 7) = i := by
  rw [mem_rs]
  exact ⟨fun h => ⟨Finset.mem_univ _, Prod.ext h.1 h.2⟩, fun h => ⟨congrArg Prod.fst h.2, congrArg Prod.snd h.2⟩⟩
theorem key_ag (i : Fin 2 × Fin 8) (x : S2x8x64x256.Idx) : x ∈ (agSlot i.1 i.2).view.set ↔ x ∈ (Finset.univ : Finset S2x8x64x256.Idx) ∧ ((x 0, x 1) : Fin 2 × Fin 8) = i := by
  rw [mem_ag]
  exact ⟨fun h => ⟨Finset.mem_univ _, Prod.ext h.1 h.2⟩, fun h => ⟨congrArg Prod.fst h.2, congrArg Prod.snd h.2⟩⟩
theorem key_wdd (i : Fin 2) (x : S2x1024x256.Idx) : x ∈ (wdDst i).view.set ↔ x ∈ (Finset.univ : Finset S2x1024x256.Idx) ∧ (x 0 : Fin 2) = i := by
  rw [mem_wdd]
  exact ⟨fun h => ⟨Finset.mem_univ _, h⟩, fun h => h.2⟩
theorem key_ph (i : Fin 2) (x : S2x512x256.Idx) : x ∈ (pHalf i).view.set ↔ x ∈ (Finset.univ : Finset S2x512x256.Idx) ∧ (x 0 : Fin 2) = i := by
  rw [mem_ph]
  exact ⟨fun h => ⟨Finset.mem_univ _, h⟩, fun h => h.2⟩

theorem key_wds (i : Fin 2) (x : S1024x512.Idx) : x ∈ (wdSrc i).view.set ↔ x ∈ (Finset.univ : Finset S1024x512.Idx)
    ∧ (Fin.ofNat 2 ((x 1).val / 256) : Fin 2) = i := by
  have h1 : (x 1).val < 512 := (x 1).isLt
  have hi := i.isLt
  have e : (Fin.ofNat 2 ((x 1).val / 256)).val = (x 1).val / 256 := Nat.mod_eq_of_lt (by omega)
  rw [mem_wds]
  exact ⟨fun h => ⟨Finset.mem_univ _, Fin.ext (e.trans h)⟩, fun h => e.symm.trans (congrArg Fin.val h.2)⟩
theorem key_pb (h : Fin 2) (j : Fin 8) (x : S2x512x256.Idx) : x ∈ (pBlk h j).view.set ↔ x ∈ (pHalf h).view.set
    ∧ (Fin.ofNat 8 ((x 1).val / 64) : Fin 8) = j := by
  have h1 : (x 1).val < 512 := (x 1).isLt
  have hj := j.isLt
  have e : (Fin.ofNat 8 ((x 1).val / 64)).val = (x 1).val / 64 := Nat.mod_eq_of_lt (by omega)
  rw [mem_pb, mem_ph]
  exact ⟨fun h => ⟨h.1, Fin.ext (e.trans h.2)⟩, fun h => ⟨h.1, e.symm.trans (congrArg Fin.val h.2)⟩⟩
theorem key_out (i : Fin 2 × Fin 8) (x : S512x512.Idx) : x ∈ (outSlot i.1 i.2).view.set ↔ x ∈ (Finset.univ : Finset S512x512.Idx)
    ∧ ((Fin.ofNat 2 ((x 1).val / 256), Fin.ofNat 8 ((x 0).val / 64)) : Fin 2 × Fin 8) = i := by
  have h0 : (x 0).val < 512 := (x 0).isLt
  have h1 : (x 1).val < 512 := (x 1).isLt
  have hj := i.2.isLt
  have hi := i.1.isLt
  have e1 : (Fin.ofNat 2 ((x 1).val / 256)).val = (x 1).val / 256 := Nat.mod_eq_of_lt (by omega)
  have e0 : (Fin.ofNat 8 ((x 0).val / 64)).val = (x 0).val / 64 := Nat.mod_eq_of_lt (by omega)
  rw [mem_out]
  exact ⟨fun h => ⟨Finset.mem_univ _, Prod.ext (Fin.ext (e1.trans h.1)) (Fin.ext (e0.trans h.2))⟩,
    fun h => ⟨e1.symm.trans (congrArg (fun p => p.1.val) h.2), e0.symm.trans (congrArg (fun p => p.2.val) h.2)⟩⟩

section Any
variable {ι : Type} [Fintype ι] [DecidableEq ι] {ℓ : Loc nD τ sig} {S : Finset (Idx ℓ)} {P : ι → Finset (Idx ℓ)} (key : Idx ℓ → ι)

theorem deal_any (h : ∀ i x, x ∈ P i ↔ x ∈ S ∧ key x = i) :
    (iprop(∃ f : Buf (Elt F) ℓ, ℓ ↦[S]{fullShare} f) : sProp 𝕄) ⊢ bigSep Finset.univ (fun i => iprop(∃ f : Buf (Elt F) ℓ, ℓ ↦[P i]{fullShare} f)) := by
  iintro ⟨%f, H⟩
  have h2 : (bigSep Finset.univ (fun i => ℓ ↦[P i]{fullShare} f) : sProp 𝕄) ⊢ bigSep Finset.univ (fun i => iprop(∃ f : Buf (Elt F) ℓ, ℓ ↦[P i]{fullShare} f)) :=
    bigSep_mono fun i _ => show (ℓ ↦[P i]{fullShare} f : sProp 𝕄) ⊢ iprop(∃ f : Buf (Elt F) ℓ, ℓ ↦[P i]{fullShare} f) from by iintro H; iexists f; iexact H
  iapply h2
  iapply (deal key h fullShare f) $$ H
theorem gather_any (h : ∀ i x, x ∈ P i ↔ x ∈ S ∧ key x = i) (f₀ : Buf (Elt F) ℓ) :
    (bigSep Finset.univ (fun i => iprop(∃ f : Buf (Elt F) ℓ, ℓ ↦[P i]{fullShare} f)) : sProp 𝕄) ⊢ iprop(∃ f : Buf (Elt F) ℓ, ℓ ↦[S]{fullShare} f) := by
  have h2 : (bigSep Finset.univ (fun i => iprop(∃ f : Buf (Elt F) ℓ, ℓ ↦[P i]{fullShare} f)) : sProp 𝕄)
      ⊢ bigSep Finset.univ (fun i => iprop(∃ f : Buf (Elt F) ℓ, ⌜True⌝ ∗ ℓ ↦[P i]{fullShare} f)) :=
    bigSep_mono fun i _ => show (iprop(∃ f : Buf (Elt F) ℓ, ℓ ↦[P i]{fullShare} f) : sProp 𝕄) ⊢ iprop(∃ f : Buf (Elt F) ℓ, ⌜True⌝ ∗ ℓ ↦[P i]{fullShare} f) from by
      iintro ⟨%f, H⟩; iexists f
      isplitr; · ipureintro; trivial
      iexact H
  refine (h2.trans (gather key h (fun _ _ => True) f₀)).trans ?_
  iintro ⟨%g, -, H⟩
  iexists g; iexact H
end Any

theorem deal_rs : anyBuf c cc0_scratch4 ⊢ (bigSep Finset.univ (fun h : Fin 2 => bigSep Finset.univ (fun k : Fin 7 => anyAt c (rsSlot h k))) : sProp 𝕄) :=
  (deal_any (ℓ := (c : Thread nD τ).loc cc0_scratch4) (fun x : S2x7x64x256.Idx => ((x 0, x 1) : Fin 2 × Fin 7)) key_rs).trans (Entails.of_eq (bigSep_univ_prod _))
include m in
theorem gather_rs : (bigSep Finset.univ (fun h : Fin 2 => bigSep Finset.univ (fun k : Fin 7 => anyAt c (rsSlot h k))) : sProp 𝕄) ⊢ anyBuf c cc0_scratch4 :=
  (Entails.of_eq (bigSep_univ_prod (fun i : Fin 2 × Fin 7 => (anyAt c (rsSlot i.1 i.2) : sProp 𝕄))).symm).trans
    (gather_any (ℓ := (c : Thread nD τ).loc cc0_scratch4) (fun x : S2x7x64x256.Idx => ((x 0, x 1) : Fin 2 × Fin 7)) key_rs (m _))
theorem deal_ag : anyBuf c cc0_scratch5 ⊢ (bigSep Finset.univ (fun h : Fin 2 => bigSep Finset.univ (fun j : Fin 8 => anyAt c (agSlot h j))) : sProp 𝕄) :=
  (deal_any (ℓ := (c : Thread nD τ).loc cc0_scratch5) (fun x : S2x8x64x256.Idx => ((x 0, x 1) : Fin 2 × Fin 8)) key_ag).trans (Entails.of_eq (bigSep_univ_prod _))
include m in
theorem gather_ag : (bigSep Finset.univ (fun h : Fin 2 => bigSep Finset.univ (fun j : Fin 8 => anyAt c (agSlot h j))) : sProp 𝕄) ⊢ anyBuf c cc0_scratch5 :=
  (Entails.of_eq (bigSep_univ_prod (fun i : Fin 2 × Fin 8 => (anyAt c (agSlot i.1 i.2) : sProp 𝕄))).symm).trans
    (gather_any (ℓ := (c : Thread nD τ).loc cc0_scratch5) (fun x : S2x8x64x256.Idx => ((x 0, x 1) : Fin 2 × Fin 8)) key_ag (m _))
theorem deal_wdd : anyBuf c cc0_scratch2 ⊢ (iprop(anyAt c (wdDst 0) ∗ anyAt c (wdDst 1)) : sProp 𝕄) :=
  (deal_any (ℓ := (c : Thread nD τ).loc cc0_scratch2) (fun x : S2x1024x256.Idx => (x 0 : Fin 2)) key_wdd).trans (Entails.of_eq (bigSep_fin_two _))
include m in
theorem gather_wdd : (iprop(anyAt c (wdDst 0) ∗ anyAt c (wdDst 1)) : sProp 𝕄) ⊢ anyBuf c cc0_scratch2 :=
  (Entails.of_eq (bigSep_fin_two (fun h : Fin 2 => (anyAt c (wdDst h) : sProp 𝕄))).symm).trans
    (gather_any (ℓ := (c : Thread nD τ).loc cc0_scratch2) (fun x : S2x1024x256.Idx => (x 0 : Fin 2)) key_wdd (m _))
theorem deal_ph : anyBuf c cc0_scratch3 ⊢ (iprop(anyAt c (pHalf 0) ∗ anyAt c (pHalf 1)) : sProp 𝕄) :=
  (deal_any (ℓ := (c : Thread nD τ).loc cc0_scratch3) (fun x : S2x512x256.Idx => (x 0 : Fin 2)) key_ph).trans (Entails.of_eq (bigSep_fin_two _))
include m in
theorem gather_ph : (iprop(anyAt c (pHalf 0) ∗ anyAt c (pHalf 1)) : sProp 𝕄) ⊢ anyBuf c cc0_scratch3 :=
  (Entails.of_eq (bigSep_fin_two (fun h : Fin 2 => (anyAt c (pHalf h) : sProp 𝕄))).symm).trans
    (gather_any (ℓ := (c : Thread nD τ).loc cc0_scratch3) (fun x : S2x512x256.Idx => (x 0 : Fin 2)) key_ph (m _))
include m in
theorem gather_pb (h : Fin 2) : (bigSep Finset.univ (fun j : Fin 8 => anyAt c (pBlk h j)) : sProp 𝕄) ⊢ anyAt c (pHalf h) :=
  gather_any (ℓ := (c : Thread nD τ).loc cc0_scratch3) (S := (pHalf h).view.set) (fun x : S2x512x256.Idx => (Fin.ofNat 8 ((x 1).val / 64) : Fin 8)) (key_pb h) (m _)
theorem deal_out : anyBuf c cc0_stg1_0 ⊢ (bigSep Finset.univ (fun h : Fin 2 => bigSep Finset.univ (fun j : Fin 8 => anyAt c (outSlot h j))) : sProp 𝕄) :=
  (deal_any (ℓ := (c : Thread nD τ).loc cc0_stg1_0) (fun x : S512x512.Idx => ((Fin.ofNat 2 ((x 1).val / 256), Fin.ofNat 8 ((x 0).val / 64)) : Fin 2 × Fin 8)) key_out).trans
    (Entails.of_eq (bigSep_univ_prod _))

/-- A block of rows within a half is the block within the buffer. -/
theorem pb_emb (h : Fin 2) (j : Fin 8) (x : S64x256.Idx) :
    (pBlk h j).view.emb x = (pHalf h).view.emb ((Rect.unit (s := S512x256) ![64 * j.val, 0] S64x256.size (row_inb j)).emb x) := by
  have key : ∀ (i : Fin 64) (l : Fin 256), (pBlk h j).view.emb (ix2 i l)
      = (pHalf h).view.emb ((Rect.unit (s := S512x256) ![64 * j.val, 0] S64x256.size (row_inb j)).emb (ix2 i l)) := fun i l => by
    have e2 : (Rect.unit (s := S512x256) ![64 * j.val, 0] S64x256.size (row_inb j)).emb (ix2 i l)
        = ix2 (⟨64 * j.val + i.val, by have := i.isLt; have := j.isLt; omega⟩ : Fin 512) l := by
      funext a
      match a with
      | 0 => apply Fin.ext; show 64 * j.val + 1 * i.val = 64 * j.val + i.val; omega
      | 1 => apply Fin.ext; show 0 + 1 * l.val = l.val; omega
    rw [e2]
    show (Rect.unit (s := S2x512x256) ![h.val, 64 * j.val, 0] S1x64x256.size (pb_inb h j)).emb (Shape.reshapeEquiv squeezes_S1x64x256_S64x256.numel_eq (ix2 i l))
      = (Rect.unit (s := S2x512x256) ![h.val, 0, 0] S1x512x256.size (ph_inb h)).emb
        (Shape.reshapeEquiv squeezes_S1x512x256_S512x256.numel_eq (ix2 (⟨64 * j.val + i.val, by have := i.isLt; have := j.isLt; omega⟩ : Fin 512) l))
    rw [reshapeEquiv_ix2_1ab, reshapeEquiv_ix2_1ab]
    funext a
    match a with
    | 0 => rfl
    | 1 => apply Fin.ext; show 64 * j.val + 1 * i.val = 0 + 1 * (64 * j.val + i.val); omega
    | 2 => rfl
  obtain ⟨i, l, rfl⟩ : ∃ (i : Fin 64) (l : Fin 256), x = ix2 i l := ⟨x 0, x 1, eq_ix2 x⟩
  exact key i l

/-- Half `h` of the partial products, dealt into its blocks of rows. -/
theorem deal_pb (h : Fin 2) : (owns (c : Thread nD τ) (pHalf h) fullShare (pD m c h) : sProp 𝕄)
    ⊢ bigSep Finset.univ (fun j : Fin 8 => owns (Val := Elt F) (c : Thread nD τ) (pBlk h j) fullShare (blk m c h j)) := by
  unfold owns
  iintro ⟨%f, %hf, H⟩
  have h2 : (bigSep Finset.univ (fun j : Fin 8 => (c : Thread nD τ).loc cc0_scratch3 ↦[(pBlk h j).view.set]{fullShare} f) : sProp 𝕄)
      ⊢ bigSep Finset.univ (fun j : Fin 8 => owns (Val := Elt F) (c : Thread nD τ) (pBlk h j) fullShare (blk m c h j)) :=
    bigSep_mono fun j _ => (owns_intro (c : Thread nD τ) (pBlk h j) fullShare f).trans (Entails.of_eq (congrArg (owns _ _ _) (by
      funext x
      show f ((pBlk h j).view.emb x) = pD m c h ((Rect.unit (s := S512x256) ![64 * j.val, 0] S64x256.size (row_inb j)).emb x)
      rw [← hf, pb_emb]
      rfl)))
  iapply h2
  iapply (deal (ℓ := (c : Thread nD τ).loc cc0_scratch3) (S := (pHalf h).view.set) (fun x : S2x512x256.Idx => (Fin.ofNat 8 ((x 1).val / 64) : Fin 8)) (key_pb h) fullShare f) $$ H

/-- The device's down weights, dealt into their two halves, and gathered again. -/
theorem deal_wds : ((c : Thread nD τ).loc main_arg3 ↦{fullShare} m ((c : Thread nD τ).loc main_arg3) : sProp 𝕄)
    ⊢ iprop(owns (Val := Elt F) (c : Thread nD τ) (wdSrc 0) fullShare (wdC m c 0) ∗ owns (Val := Elt F) (c : Thread nD τ) (wdSrc 1) fullShare (wdC m c 1)) := by
  refine ((deal (ℓ := (c : Thread nD τ).loc main_arg3) (fun x : S1024x512.Idx => (Fin.ofNat 2 ((x 1).val / 256) : Fin 2)) key_wds fullShare (m _)).trans
    (Entails.of_eq (bigSep_fin_two _))).trans ?_
  exact BI.sep_mono (owns_intro (c : Thread nD τ) (wdSrc 0) fullShare _) (owns_intro (c : Thread nD τ) (wdSrc 1) fullShare _)

/-- The blocks of the result, each at its own sum, are the result. -/
theorem gather_out : (bigSep Finset.univ (fun h : Fin 2 => bigSep Finset.univ (fun j : Fin 8 => owns (Val := Elt F) (c : Thread nD τ) (outSlot h j) fullShare (piece m c h j))) : sProp 𝕄)
    ⊢ ((c : Thread nD τ).loc cc0_stg1_0 ↦{fullShare} outV m c) := by
  refine (Entails.of_eq (bigSep_univ_prod (fun i : Fin 2 × Fin 8 => (owns (Val := Elt F) (c : Thread nD τ) (outSlot i.1 i.2) fullShare (piece m c i.1 i.2) : sProp 𝕄))).symm).trans ?_
  refine (gather (ℓ := (c : Thread nD τ).loc cc0_stg1_0) (fun x : S512x512.Idx => ((Fin.ofNat 2 ((x 1).val / 256), Fin.ofNat 8 ((x 0).val / 64)) : Fin 2 × Fin 8)) key_out
    (fun i f => (outSlot i.1 i.2).view.read (Elt F) f = piece m c i.1 i.2) (m _)).trans ?_
  iintro ⟨%g, %hg, H⟩
  obtain ⟨fs, hR, hg⟩ := hg
  have e : g = outV m c := by
    funext i
    have h0 : (i 0).val < 512 := (i 0).isLt
    have h1 : (i 1).val < 512 := (i 1).isLt
    let p : Fin 2 × Fin 8 := (⟨(i 1).val / 256, by omega⟩, ⟨(i 0).val / 64, by omega⟩)
    let x : S64x256.Idx := fun | 0 => (⟨(i 0).val % 64, Nat.mod_lt _ (by decide)⟩ : Fin 64) | 1 => (⟨(i 1).val % 256, Nat.mod_lt _ (by decide)⟩ : Fin 256)
    have hx : (outSlot p.1 p.2).view.emb x = i := by
      funext a
      match a with
      | 0 => apply Fin.ext; show 64 * ((i 0).val / 64) + 1 * ((i 0).val % 64) = (i 0).val; omega
      | 1 => apply Fin.ext; show 256 * ((i 1).val / 256) + 1 * ((i 1).val % 256) = (i 1).val; omega
    have hm : i ∈ (outSlot p.1 p.2).view.set := (mem_out p.1 p.2 i).mpr ⟨rfl, rfl⟩
    have hr := congrFun (hR p) x
    rw [hg p i hm]
    have : (outSlot p.1 p.2).view.read (Elt F) (fs p) x = fs p i := by
      show fs p ((outSlot p.1 p.2).view.emb x) = fs p i
      rw [hx]
    exact this.symm.trans hr
  subst e
  iexact H

include m in
theorem gather_wds : (iprop(owns (Val := Elt F) (c : Thread nD τ) (wdSrc 0) fullShare (wdC m c 0) ∗ owns (Val := Elt F) (c : Thread nD τ) (wdSrc 1) fullShare (wdC m c 1)) : sProp 𝕄)
    ⊢ ((c : Thread nD τ).loc main_arg3 ↦{fullShare} m ((c : Thread nD τ).loc main_arg3)) := by
  refine (Entails.of_eq (bigSep_fin_two (fun h : Fin 2 => (owns (Val := Elt F) (c : Thread nD τ) (wdSrc h) fullShare (wdC m c h) : sProp 𝕄))).symm).trans ?_
  refine (gather (ℓ := (c : Thread nD τ).loc main_arg3) (fun x : S1024x512.Idx => (Fin.ofNat 2 ((x 1).val / 256) : Fin 2)) key_wds
    (fun h f => (wdSrc h).view.read (Elt F) f = wdC m c h) (m _)).trans ?_
  iintro ⟨%g, %hg, H⟩
  obtain ⟨fs, hR, hg⟩ := hg
  have e : g = m ((c : Thread nD τ).loc main_arg3) := by
    funext i
    have h1 : (i 1).val < 512 := (i 1).isLt
    let p : Fin 2 := ⟨(i 1).val / 256, by omega⟩
    have hm : i ∈ (wdSrc p).view.set := (mem_wds p i).mpr rfl
    obtain ⟨x, -, hx⟩ := Finset.mem_map.mp hm
    have hr := congrFun (hR p) x
    have hx' : (wdSrc p).view.emb x = i := hx
    have hr' : fs p ((wdSrc p).view.emb x) = m ((c : Thread nD τ).loc main_arg3) ((wdSrc p).view.emb x) := hr
    rw [hx'] at hr'
    rw [hg p i hm, hr']
  subst e
  iexact H

/-- A block of the result dealt into seven readers' shares and a rest, and gathered again. -/
theorem deal_q {S : Shape} {e : EltTy} {sp : Space} (M : Memref sig .tc sp S e) (v : S.Idx → Elt F e) :
    (owns (c : Thread nD τ) M fullShare v : sProp 𝕄)
      ⊢ iprop(owns (c : Thread nD τ) M (Transfers.shareDrop fullShare 7) v ∗ bigSep Finset.univ (fun k : Fin 7 => owns (c : Thread nD τ) M (q7 k) v)) := by
  unfold owns
  iintro ⟨%f, %hf, H⟩
  ihave H := (Transfers.pointsTo_toks_split fullShare 7) $$ H
  icases H with ⟨H0, H⟩
  isplitl [H0]
  · iexists f
    isplitr; · ipureintro; exact hf
    iexact H0
  have h2 : (bigSep Finset.univ (fun k : Fin 7 => M.view.loc (c : Thread nD τ) ↦[M.view.set]{q7 k} f) : sProp 𝕄)
      ⊢ bigSep Finset.univ (fun k : Fin 7 => owns (c : Thread nD τ) M (q7 k) v) :=
    bigSep_mono fun k _ => (owns_intro (c : Thread nD τ) M (q7 k) f).trans (Entails.of_eq (congrArg (owns _ _ _) hf))
  unfold owns at h2
  iapply h2 $$ H

end Cert.Mesh
-- ==== Proof.Moves.lean ====
/-
The steps of a device's run in the shape the kernel's parts use them: one lemma for each kind of memory operation.
-/

module

public import proofs.«01_k».proof.Proof.Split

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Ready to wait for a transfer: at the start of its cell's round, with the credit for the wait. -/
def ready (c : Dev nD) (a : Fin 4) (h : Fin 2) (k : Fin 7) : sProp 𝕄 :=
  iprop(atPos ER (xCell c a h k) 0 ∅ 0 ∗ cred (tallyAt (xCell c a h k) () N))
/-- The wait is over: the cell's one round is done. -/
def done (c : Dev nD) (a : Fin 4) (h : Fin 2) (k : Fin 7) : sProp 𝕄 := atPos ER (xCell c a h k) 1 ∅ 0
/-- All that sending message `k` of half `h` takes, the sender's place on its own cell included. -/
def rsGo (h : Fin 2) (k : Fin 7) : sProp 𝕄 := iprop(rsRes m c h k ∗ atPos ER (xCell c 0 h k) 0 ∅ 0)
def agGo (h : Fin 2) (k : Fin 7) : sProp 𝕄 := iprop(agRes m c h k ∗ atPos ER (xCell c 2 h k) 0 ∅ 0)

/-- A program that is done gives its value. -/
theorem fin {α : Type} {Q : α → sProp 𝕄} (v : α) : Q v ⊢ WP c (.ret v) Q :=
  fupd_intro
/-- A program that starts with a part: the part runs to where the rest runs to the goal. -/
theorem first {α β : Type} {Q : β → sProp 𝕄} (p : Prog (TpuEff nD τ sig (Elt F) Λ₀ .tc) α) (k : α → Prog (TpuEff nD τ sig (Elt F) Λ₀ .tc) β) :
    WP c p (fun x => WP c (k x) Q) ⊢ WP c (p.bind k) Q :=
  Entails.of_eq (wp_bind _ _ _ p k Q).symm

theorem go_rs (h : Fin 2) (k : Fin 7) (t : ℕ) (ht : t = 7 + 7 * h.val + k.val) {n : Dev nD} (hn : n = fwd c k)
    {off : Fin 3 → ℕ} {inb : ∀ a, off a + S1x64x256.size a ≤ S2x512x256.size a} {hu : ∀ a, (Rect.unit (s := S2x512x256) off S1x64x256.size inb).stride a = 1}
    {hsq : S1x64x256.Squeezes S64x256} (hoff : off = ![h.val, 64 * (fwd c k).val, 0])
    {offd : Fin 4 → ℕ} {inbd : ∀ a, offd a + S1x1x64x256.size a ≤ S2x7x64x256.size a} {hud : ∀ a, (Rect.unit (s := S2x7x64x256) offd S1x1x64x256.size inbd).stride a = 1}
    {hsqd : S1x1x64x256.Squeezes S64x256} (hoffd : offd = ![h.val, k.val, 0, 0])
    {sS sR : DmaSem sig} (hS : sS = xs 0 h k) (hR : sR = xs 1 h k)
    {hsc : ((rM.slice (Rect.unit (s := S2x7x64x256) offd S1x1x64x256.size inbd) hud).squeeze S64x256 hsqd : Memref sig (Dev.tc n : Thread nD τ).2.kind .vmem S64x256 .bf16).view.ref.isScScratch = false}
    {hsrc : ((pM.slice (Rect.unit (s := S2x512x256) off S1x64x256.size inb) hu).squeeze S64x256 hsq).view.WordExact}
    {hdst : ((rM.slice (Rect.unit (s := S2x7x64x256) offd S1x1x64x256.size inbd) hud).squeeze S64x256 hsqd).view.WordExact}
    {hsem : DmaTarget.Typed .vmem (.dma sR) (.remote (Dev.tc n : Thread nD τ) ((rM.slice (Rect.unit (s := S2x7x64x256) offd S1x1x64x256.size inbd) hud).squeeze S64x256 hsqd) (.dma sS) hsc)}
    {α : Type} {Q : α → sProp 𝕄} {kont : PUnit → Prog (TpuEff nD τ sig (Elt F) Λ₀ .tc) α} :
    recs m K ⊢ iprop(owesE c t -∗ rsGo m c h k -∗ (owesE c (t + 1) -∗ ready c 0 h k -∗ WP c (kont ⟨⟩) Q)
      -∗ WP c (.op (.enqueueDma ((pM.slice (Rect.unit (s := S2x512x256) off S1x64x256.size inb) hu).squeeze S64x256 hsq)
        (.remote (Dev.tc n : Thread nD τ) ((rM.slice (Rect.unit (s := S2x7x64x256) offd S1x1x64x256.size inbd) hud).squeeze S64x256 hsqd) (.dma sS) hsc)
        (.dma sR) hsrc hdst hsem) kont) Q) := by
  subst ht
  unfold rsGo ready
  iintro #HR HO ⟨H, Ha⟩ Hk
  iapply (step_send_rs m K c h k hn hoff hoffd hS hR) $$ HR HO H
  iintro ⟨Hc, HO⟩
  iapply Hk $$ HO
  isplitl [Ha]; · iexact Ha
  iexact Hc

theorem go_ag (h : Fin 2) (k : Fin 7) (t : ℕ) (ht : t = 21 + 7 * h.val + k.val) {n : Dev nD} (hn : n = fwd c k)
    {off : Fin 4 → ℕ} {inb : ∀ a, off a + S1x1x64x256.size a ≤ S2x8x64x256.size a} {hu : ∀ a, (Rect.unit (s := S2x8x64x256) off S1x1x64x256.size inb).stride a = 1}
    {hsq : S1x1x64x256.Squeezes S64x256} (hoff : off = ![h.val, c.val, 0, 0])
    {inbd : ∀ a, off a + S1x1x64x256.size a ≤ S2x8x64x256.size a} {hud : ∀ a, (Rect.unit (s := S2x8x64x256) off S1x1x64x256.size inbd).stride a = 1}
    {hsqd : S1x1x64x256.Squeezes S64x256}
    {sS sR : DmaSem sig} (hS : sS = xs 2 h k) (hR : sR = xs 3 h k)
    {hsc : ((gM.slice (Rect.unit (s := S2x8x64x256) off S1x1x64x256.size inbd) hud).squeeze S64x256 hsqd : Memref sig (Dev.tc n : Thread nD τ).2.kind .vmem S64x256 .bf16).view.ref.isScScratch = false}
    {hsrc : ((gM.slice (Rect.unit (s := S2x8x64x256) off S1x1x64x256.size inb) hu).squeeze S64x256 hsq).view.WordExact}
    {hdst : ((gM.slice (Rect.unit (s := S2x8x64x256) off S1x1x64x256.size inbd) hud).squeeze S64x256 hsqd).view.WordExact}
    {hsem : DmaTarget.Typed .vmem (.dma sR) (.remote (Dev.tc n : Thread nD τ) ((gM.slice (Rect.unit (s := S2x8x64x256) off S1x1x64x256.size inbd) hud).squeeze S64x256 hsqd) (.dma sS) hsc)}
    {α : Type} {Q : α → sProp 𝕄} {kont : PUnit → Prog (TpuEff nD τ sig (Elt F) Λ₀ .tc) α} :
    recs m K ⊢ iprop(owesE c t -∗ agGo m c h k -∗ (owesE c (t + 1) -∗ ready c 2 h k -∗ WP c (kont ⟨⟩) Q)
      -∗ WP c (.op (.enqueueDma ((gM.slice (Rect.unit (s := S2x8x64x256) off S1x1x64x256.size inb) hu).squeeze S64x256 hsq)
        (.remote (Dev.tc n : Thread nD τ) ((gM.slice (Rect.unit (s := S2x8x64x256) off S1x1x64x256.size inbd) hud).squeeze S64x256 hsqd) (.dma sS) hsc)
        (.dma sR) hsrc hdst hsem) kont) Q) := by
  subst ht
  unfold agGo ready
  iintro #HR HO ⟨H, Ha⟩ Hk
  iapply (step_send_ag m K c h k hn hoff hS hR) $$ HR HO H
  iintro ⟨Hc, HO⟩
  iapply Hk $$ HO
  isplitl [Ha]; · iexact Ha
  iexact Hc

/-- Waiting for a transfer, and what that hands over. -/
theorem take (a : Fin 4) (h : Fin 2) (k : Fin 7) (n : ℕ) (hn : (match a with | 0 => 0 | 1 => 21 | 2 => 0 | 3 => 35) ≤ n) (P : sProp 𝕄) (hP : xPay m c a h k = P)
    {q : DmaSem sig} (hq : q = xs a h k)
    {sp sp' : Space} {S S' : Shape} {e e' : EltTy} {srcw : Memref sig .tc sp S e} {dstw : Memref sig .tc sp' S' e'}
    {hsrc : srcw.view.WordExact} {hdst : dstw.view.WordExact} (hN : dstw.view.dmaCredit = N)
    {α : Type} {Q : α → sProp 𝕄} {kont : PUnit → Prog (TpuEff nD τ sig (Elt F) Λ₀ .tc) α} :
    recs m K ⊢ iprop(owesE c n -∗ ready c a h k -∗ (owesE c n -∗ done c a h k -∗ P -∗ WP c (kont ⟨⟩) Q)
      -∗ WP c (.op (.waitDma2 q srcw dstw hsrc hdst) kont) Q) := by
  subst hP
  unfold ready done
  iintro #HR HO ⟨Ha, Hc⟩ Hk
  iapply (step_wait_x m K c a h k n hn hq hN) $$ HR HO Ha Hc
  iintro ⟨HO, Ha, HP⟩
  iapply Hk $$ HO Ha HP

/-- What the four kinds of wait hand over. -/
abbrev rsBack (h : Fin 2) (k : Fin 7) : sProp 𝕄 := owns (c : Thread nD τ) (pBlk h (fwd c k)) fullShare (blk m c h (fwd c k))
abbrev rsIn (h : Fin 2) (k : Fin 7) : sProp 𝕄 := owns (c : Thread nD τ) (rsSlot h k) fullShare (blk m (bwd c k) h c)
abbrev agBack (h : Fin 2) (k : Fin 7) : sProp 𝕄 := owns (c : Thread nD τ) (agSlot h c) (q7 k) (agV m c h)
abbrev agIn (h : Fin 2) (k : Fin 7) : sProp 𝕄 := owns (c : Thread nD τ) (agSlot h (bwd c k)) fullShare (agV m (bwd c k) h)

/-- The waits in the kernel's three forms: what they name as the landing lies in the slots, in the partial products, in
    the gathered sums. -/
theorem take_r (h : Fin 2) (k : Fin 7) (n : ℕ) (hn : 21 ≤ n) {q : DmaSem sig} (hq : q = xs 1 h k)
    {sp : Space} {S : Shape} {e : EltTy} {srcw : Memref sig .tc sp S e}
    {off : Fin 4 → ℕ} {inb : ∀ a, off a + S1x1x64x256.size a ≤ S2x7x64x256.size a} {hu : ∀ a, (Rect.unit (s := S2x7x64x256) off S1x1x64x256.size inb).stride a = 1}
    {hsq : S1x1x64x256.Squeezes S64x256}
    {hsrc : srcw.view.WordExact} {hdst : ((rM.slice (Rect.unit (s := S2x7x64x256) off S1x1x64x256.size inb) hu).squeeze S64x256 hsq).view.WordExact}
    {α : Type} {Q : α → sProp 𝕄} {kont : PUnit → Prog (TpuEff nD τ sig (Elt F) Λ₀ .tc) α} :
    recs m K ⊢ iprop(owesE c n -∗ ready c 1 h k -∗ (owesE c n -∗ done c 1 h k -∗ rsIn m c h k -∗ WP c (kont ⟨⟩) Q)
      -∗ WP c (.op (.waitDma2 q srcw ((rM.slice (Rect.unit (s := S2x7x64x256) off S1x1x64x256.size inb) hu).squeeze S64x256 hsq) hsrc hdst) kont) Q) :=
  take m K c 1 h k n hn _ rfl hq (by rfl)
theorem take_p (h : Fin 2) (k : Fin 7) (n : ℕ) {q : DmaSem sig} (hq : q = xs 0 h k)
    {sp : Space} {S : Shape} {e : EltTy} {srcw : Memref sig .tc sp S e}
    {off : Fin 3 → ℕ} {inb : ∀ a, off a + S1x64x256.size a ≤ S2x512x256.size a} {hu : ∀ a, (Rect.unit (s := S2x512x256) off S1x64x256.size inb).stride a = 1}
    {hsq : S1x64x256.Squeezes S64x256}
    {hsrc : srcw.view.WordExact} {hdst : ((pM.slice (Rect.unit (s := S2x512x256) off S1x64x256.size inb) hu).squeeze S64x256 hsq).view.WordExact}
    {α : Type} {Q : α → sProp 𝕄} {kont : PUnit → Prog (TpuEff nD τ sig (Elt F) Λ₀ .tc) α} :
    recs m K ⊢ iprop(owesE c n -∗ ready c 0 h k -∗ (owesE c n -∗ done c 0 h k -∗ rsBack m c h k -∗ WP c (kont ⟨⟩) Q)
      -∗ WP c (.op (.waitDma2 q srcw ((pM.slice (Rect.unit (s := S2x512x256) off S1x64x256.size inb) hu).squeeze S64x256 hsq) hsrc hdst) kont) Q) :=
  take m K c 0 h k n (Nat.zero_le n) _ rfl hq (by rfl)
theorem take_s (h : Fin 2) (k : Fin 7) (n : ℕ) {q : DmaSem sig} (hq : q = xs 2 h k)
    {sp : Space} {S : Shape} {e : EltTy} {srcw : Memref sig .tc sp S e}
    {off : Fin 4 → ℕ} {inb : ∀ a, off a + S1x1x64x256.size a ≤ S2x8x64x256.size a} {hu : ∀ a, (Rect.unit (s := S2x8x64x256) off S1x1x64x256.size inb).stride a = 1}
    {hsq : S1x1x64x256.Squeezes S64x256}
    {hsrc : srcw.view.WordExact} {hdst : ((gM.slice (Rect.unit (s := S2x8x64x256) off S1x1x64x256.size inb) hu).squeeze S64x256 hsq).view.WordExact}
    {α : Type} {Q : α → sProp 𝕄} {kont : PUnit → Prog (TpuEff nD τ sig (Elt F) Λ₀ .tc) α} :
    recs m K ⊢ iprop(owesE c n -∗ ready c 2 h k -∗ (owesE c n -∗ done c 2 h k -∗ agBack m c h k -∗ WP c (kont ⟨⟩) Q)
      -∗ WP c (.op (.waitDma2 q srcw ((gM.slice (Rect.unit (s := S2x8x64x256) off S1x1x64x256.size inb) hu).squeeze S64x256 hsq) hsrc hdst) kont) Q) :=
  take m K c 2 h k n (Nat.zero_le n) _ rfl hq (by rfl)
theorem take_g (h : Fin 2) (k : Fin 7) (n : ℕ) (hn : 35 ≤ n) {q : DmaSem sig} (hq : q = xs 3 h k)
    {sp : Space} {S : Shape} {e : EltTy} {srcw : Memref sig .tc sp S e}
    {off : Fin 4 → ℕ} {inb : ∀ a, off a + S1x1x64x256.size a ≤ S2x8x64x256.size a} {hu : ∀ a, (Rect.unit (s := S2x8x64x256) off S1x1x64x256.size inb).stride a = 1}
    {hsq : S1x1x64x256.Squeezes S64x256}
    {hsrc : srcw.view.WordExact} {hdst : ((gM.slice (Rect.unit (s := S2x8x64x256) off S1x1x64x256.size inb) hu).squeeze S64x256 hsq).view.WordExact}
    {α : Type} {Q : α → sProp 𝕄} {kont : PUnit → Prog (TpuEff nD τ sig (Elt F) Λ₀ .tc) α} :
    recs m K ⊢ iprop(owesE c n -∗ ready c 3 h k -∗ (owesE c n -∗ done c 3 h k -∗ agIn m c h k -∗ WP c (kont ⟨⟩) Q)
      -∗ WP c (.op (.waitDma2 q srcw ((gM.slice (Rect.unit (s := S2x8x64x256) off S1x1x64x256.size inb) hu).squeeze S64x256 hsq) hsrc hdst) kont) Q) :=
  take m K c 3 h k n hn _ rfl hq (by rfl)

/-! ## Blocks in the shapes they are loaded and stored in -/

/-- A block with one and with two axes of size one in front. -/
def up3 (v : FVec F S64x256 .bf16) : Vec F S1x64x256 .bf16 := shapeCast S1x64x256 v squeezes_S1x64x256_S64x256.numel_eq.symm
def up4 (v : FVec F S64x256 .bf16) : Vec F S1x1x64x256 .bf16 := shapeCast S1x1x64x256 v squeezes_S1x1x64x256_S64x256.numel_eq.symm

theorem down3 (v : FVec F S64x256 .bf16) (h) : shapeCast S64x256 (up3 v) h = v := shapeCast_shapeCast _ _ _
theorem down4 (v : FVec F S64x256 .bf16) (h) : shapeCast S64x256 (up4 v) h = v := shapeCast_shapeCast _ _ _

theorem ld_p (h : Fin 2) (j : Fin 8) {off : Fin 3 → ℕ} (ho : off = ![h.val, 64 * j.val, 0]) {inb : ∀ a, off a + S1x64x256.size a ≤ S2x512x256.size a}
    {q : PosShare TreeShare} {v : FVec F S64x256 .bf16} {hl}
    {α : Type} {Q : α → sProp 𝕄} {kont : Vec F S1x64x256 .bf16 → Prog (TpuEff nD τ sig (Elt F) Λ₀ .tc) α} :
    (owns (c : Thread nD τ) (pBlk h j) q v : sProp 𝕄) ⊢ iprop((owns (c : Thread nD τ) (pBlk h j) q v -∗ WP c (kont (up3 v)) Q)
      -∗ WP c (.op (.load pM (Rect.unit (s := S2x512x256) off S1x64x256.size inb).toLoadRect hl) kont) Q) := by
  subst ho
  exact load_sq c pM (Rect.unit (s := S2x512x256) ![h.val, 64 * j.val, 0] S1x64x256.size inb) (fun _ => rfl) squeezes_S1x64x256_S64x256
theorem ld_r (h : Fin 2) (k : Fin 7) {off : Fin 4 → ℕ} (ho : off = ![h.val, k.val, 0, 0]) {inb : ∀ a, off a + S1x1x64x256.size a ≤ S2x7x64x256.size a}
    {q : PosShare TreeShare} {v : FVec F S64x256 .bf16} {hl}
    {α : Type} {Q : α → sProp 𝕄} {kont : Vec F S1x1x64x256 .bf16 → Prog (TpuEff nD τ sig (Elt F) Λ₀ .tc) α} :
    (owns (c : Thread nD τ) (rsSlot h k) q v : sProp 𝕄) ⊢ iprop((owns (c : Thread nD τ) (rsSlot h k) q v -∗ WP c (kont (up4 v)) Q)
      -∗ WP c (.op (.load rM (Rect.unit (s := S2x7x64x256) off S1x1x64x256.size inb).toLoadRect hl) kont) Q) := by
  subst ho
  exact load_sq c rM (Rect.unit (s := S2x7x64x256) ![h.val, k.val, 0, 0] S1x1x64x256.size inb) (fun _ => rfl) squeezes_S1x1x64x256_S64x256
theorem ld_g (h : Fin 2) (j : Fin 8) {off : Fin 4 → ℕ} (ho : off = ![h.val, j.val, 0, 0]) {inb : ∀ a, off a + S1x1x64x256.size a ≤ S2x8x64x256.size a}
    {q : PosShare TreeShare} {v : FVec F S64x256 .bf16} {hl}
    {α : Type} {Q : α → sProp 𝕄} {kont : Vec F S1x1x64x256 .bf16 → Prog (TpuEff nD τ sig (Elt F) Λ₀ .tc) α} :
    (owns (c : Thread nD τ) (agSlot h j) q v : sProp 𝕄) ⊢ iprop((owns (c : Thread nD τ) (agSlot h j) q v -∗ WP c (kont (up4 v)) Q)
      -∗ WP c (.op (.load gM (Rect.unit (s := S2x8x64x256) off S1x1x64x256.size inb).toLoadRect hl) kont) Q) := by
  subst ho
  exact load_sq c gM (Rect.unit (s := S2x8x64x256) ![h.val, j.val, 0, 0] S1x1x64x256.size inb) (fun _ => rfl) squeezes_S1x1x64x256_S64x256
theorem ld_g_any (h : Fin 2) (j : Fin 8) {off : Fin 4 → ℕ} (ho : off = ![h.val, j.val, 0, 0]) {inb : ∀ a, off a + S1x1x64x256.size a ≤ S2x8x64x256.size a} {hl}
    {α : Type} {Q : α → sProp 𝕄} {kont : Vec F S1x1x64x256 .bf16 → Prog (TpuEff nD τ sig (Elt F) Λ₀ .tc) α} :
    (anyAt c (agSlot h j) : sProp 𝕄) ⊢ iprop((∀ w, anyAt c (agSlot h j) -∗ WP c (kont w) Q)
      -∗ WP c (.op (.load gM (Rect.unit (s := S2x8x64x256) off S1x1x64x256.size inb).toLoadRect hl) kont) Q) := by
  subst ho
  exact load_any_sq c gM (Rect.unit (s := S2x8x64x256) ![h.val, j.val, 0, 0] S1x1x64x256.size inb) (fun _ => rfl) squeezes_S1x1x64x256_S64x256
theorem st_g (h : Fin 2) (j : Fin 8) {off : Fin 4 → ℕ} (ho : off = ![h.val, j.val, 0, 0]) {w : Vec F S1x1x64x256 .bf16} (v : FVec F S64x256 .bf16) (hw : w = up4 v)
    {inb : ∀ a, off a + S1x1x64x256.size a ≤ S2x8x64x256.size a} {hx : (gM.access (Rect.unit (s := S2x8x64x256) off S1x1x64x256.size inb)).Stores Finset.univ} {hm}
    {α : Type} {Q : α → sProp 𝕄} {kont : PUnit → Prog (TpuEff nD τ sig (Elt F) Λ₀ .tc) α} :
    (anyAt c (agSlot h j) : sProp 𝕄) ⊢ iprop((owns (c : Thread nD τ) (agSlot h j) fullShare v -∗ WP c (kont ⟨⟩) Q)
      -∗ WP c (.op (.store gM (Rect.unit (s := S2x8x64x256) off S1x1x64x256.size inb) w Finset.univ hx hm) kont) Q) := by
  subst ho hw
  have h1 := store_sq (F := F) c gM (Rect.unit (s := S2x8x64x256) ![h.val, j.val, 0, 0] S1x1x64x256.size inb) (fun _ => rfl) squeezes_S1x1x64x256_S64x256
    (w := up4 v) (hx := hx) (hm := hm) (Q := Q) (kont := kont)
  have e : (shapeCast S64x256 (up4 v) squeezes_S1x1x64x256_S64x256.numel_eq : S64x256.Idx → Elt F .bf16) = v := down4 v _
  rw [e] at h1
  exact h1
theorem ld_o_any (h : Fin 2) (j : Fin 8) {off : Fin 2 → ℕ} (ho : off = ![64 * j.val, 256 * h.val]) {inb : ∀ a, off a + S64x256.size a ≤ S512x512.size a} {hl}
    {α : Type} {Q : α → sProp 𝕄} {kont : Vec F S64x256 .f32 → Prog (TpuEff nD τ sig (Elt F) Λ₀ .tc) α} :
    (anyAt c (outSlot h j) : sProp 𝕄) ⊢ iprop((∀ w, anyAt c (outSlot h j) -∗ WP c (kont w) Q)
      -∗ WP c (.op (.load oM (Rect.unit (s := S512x512) off S64x256.size inb).toLoadRect hl) kont) Q) := by
  subst ho
  exact load_any_sl c oM (Rect.unit (s := S512x512) ![64 * j.val, 256 * h.val] S64x256.size inb) (fun _ => rfl)
theorem st_o (h : Fin 2) (j : Fin 8) {off : Fin 2 → ℕ} (ho : off = ![64 * j.val, 256 * h.val]) {w : Vec F S64x256 .f32} (v : FVec F S64x256 .f32) (hw : w = v)
    {inb : ∀ a, off a + S64x256.size a ≤ S512x512.size a} {hx : (oM.access (Rect.unit (s := S512x512) off S64x256.size inb)).Stores Finset.univ} {hm}
    {α : Type} {Q : α → sProp 𝕄} {kont : PUnit → Prog (TpuEff nD τ sig (Elt F) Λ₀ .tc) α} :
    (anyAt c (outSlot h j) : sProp 𝕄) ⊢ iprop((owns (c : Thread nD τ) (outSlot h j) fullShare v -∗ WP c (kont ⟨⟩) Q)
      -∗ WP c (.op (.store oM (Rect.unit (s := S512x512) off S64x256.size inb) w Finset.univ hx hm) kont) Q) := by
  subst ho hw
  exact store_sl c oM (Rect.unit (s := S512x512) ![64 * j.val, 256 * h.val] S64x256.size inb) (fun _ => rfl)

/-- A half of the down weights, as loaded; a half of the partial product, as stored. -/
def upW (v : FVec F S1024x256 .f32) : Vec F S1x1024x256 .f32 := shapeCast S1x1024x256 v squeezes_S1x1024x256_S1024x256.numel_eq.symm
theorem downW (v : FVec F S1024x256 .f32) (h) : shapeCast S1024x256 (upW v) h = v := shapeCast_shapeCast _ _ _
theorem ld_wd (h : Fin 2) {off : Fin 3 → ℕ} (ho : off = ![h.val, 0, 0]) {inb : ∀ a, off a + S1x1024x256.size a ≤ S2x1024x256.size a}
    {q : PosShare TreeShare} {v : FVec F S1024x256 .f32} {hl}
    {α : Type} {Q : α → sProp 𝕄} {kont : Vec F S1x1024x256 .f32 → Prog (TpuEff nD τ sig (Elt F) Λ₀ .tc) α} :
    (owns (c : Thread nD τ) (wdDst h) q v : sProp 𝕄) ⊢ iprop((owns (c : Thread nD τ) (wdDst h) q v -∗ WP c (kont (upW v)) Q)
      -∗ WP c (.op (.load wdM (Rect.unit (s := S2x1024x256) off S1x1024x256.size inb).toLoadRect hl) kont) Q) := by
  subst ho
  exact load_sq c wdM (Rect.unit (s := S2x1024x256) ![h.val, 0, 0] S1x1024x256.size inb) (fun _ => rfl) squeezes_S1x1024x256_S1024x256
theorem ld_ph_any (h : Fin 2) {off : Fin 3 → ℕ} (ho : off = ![h.val, 0, 0]) {inb : ∀ a, off a + S1x512x256.size a ≤ S2x512x256.size a} {hl}
    {α : Type} {Q : α → sProp 𝕄} {kont : Vec F S1x512x256 .bf16 → Prog (TpuEff nD τ sig (Elt F) Λ₀ .tc) α} :
    (anyAt c (pHalf h) : sProp 𝕄) ⊢ iprop((∀ w, anyAt c (pHalf h) -∗ WP c (kont w) Q)
      -∗ WP c (.op (.load pM (Rect.unit (s := S2x512x256) off S1x512x256.size inb).toLoadRect hl) kont) Q) := by
  subst ho
  exact load_any_sq c pM (Rect.unit (s := S2x512x256) ![h.val, 0, 0] S1x512x256.size inb) (fun _ => rfl) squeezes_S1x512x256_S512x256
theorem st_ph (h : Fin 2) {off : Fin 3 → ℕ} (ho : off = ![h.val, 0, 0]) {w : Vec F S1x512x256 .bf16} (v : FVec F S512x256 .bf16)
    (hw : w = shapeCast S1x512x256 v shapeCasts_S512x256_S1x512x256)
    {inb : ∀ a, off a + S1x512x256.size a ≤ S2x512x256.size a} {hx : (pM.access (Rect.unit (s := S2x512x256) off S1x512x256.size inb)).Stores Finset.univ} {hm}
    {α : Type} {Q : α → sProp 𝕄} {kont : PUnit → Prog (TpuEff nD τ sig (Elt F) Λ₀ .tc) α} :
    (anyAt c (pHalf h) : sProp 𝕄) ⊢ iprop((owns (c : Thread nD τ) (pHalf h) fullShare v -∗ WP c (kont ⟨⟩) Q)
      -∗ WP c (.op (.store pM (Rect.unit (s := S2x512x256) off S1x512x256.size inb) w Finset.univ hx hm) kont) Q) := by
  subst ho hw
  have h1 := store_sq (F := F) c pM (Rect.unit (s := S2x512x256) ![h.val, 0, 0] S1x512x256.size inb) (fun _ => rfl) squeezes_S1x512x256_S512x256
    (w := shapeCast S1x512x256 v shapeCasts_S512x256_S1x512x256) (hx := hx) (hm := hm) (Q := Q) (kont := kont)
  have e : (shapeCast S512x256 (shapeCast S1x512x256 v shapeCasts_S512x256_S1x512x256) squeezes_S1x512x256_S512x256.numel_eq : S512x256.Idx → Elt F .bf16) = v :=
    shapeCast_shapeCast _ _ _
  rw [e] at h1
  exact h1

/-! ## What the parts compute of such blocks -/

theorem pay5_up (v : FVec F S64x256 .bf16) : k0_pay5 (up3 v) = wide v := by unfold k0_pay5 wide; rw [down3]
theorem pay12_up (v : FVec F S64x256 .bf16) : k0_pay12 (up3 v) = wide v := by unfold k0_pay12 wide; rw [down3]
theorem pay6_up (a : FVec F S64x256 .f32) (v w : FVec F S64x256 .bf16) : k0_pay6 a (up4 v) (up4 w) = addf (addf a (wide v)) (wide w) := by
  unfold k0_pay6 wide; rw [down4, down4]
theorem pay8_up (a : FVec F S64x256 .f32) (v w : FVec F S64x256 .bf16) : k0_pay8 a (up4 v) (up4 w) = addf (addf a (wide v)) (wide w) := by
  unfold k0_pay8 wide; rw [down4, down4]
theorem pay13_up (a : FVec F S64x256 .f32) (v w : FVec F S64x256 .bf16) : k0_pay13 a (up4 v) (up4 w) = addf (addf a (wide v)) (wide w) := by
  unfold k0_pay13 wide; rw [down4, down4]
theorem pay15_up (a : FVec F S64x256 .f32) (v w : FVec F S64x256 .bf16) : k0_pay15 a (up4 v) (up4 w) = addf (addf a (wide v)) (wide w) := by
  unfold k0_pay15 wide; rw [down4, down4]
theorem pay7_up (a : FVec F S64x256 .f32) (v : FVec F S64x256 .bf16) : k0_pay7 a (up4 v) = addf a (wide v) := by unfold k0_pay7 wide; rw [down4]
theorem pay9_up (a : FVec F S64x256 .f32) (v : FVec F S64x256 .bf16) : k0_pay9 a (up4 v) = addf a (wide v) := by unfold k0_pay9 wide; rw [down4]
theorem pay10_up (a : FVec F S64x256 .f32) (v : FVec F S64x256 .bf16) : k0_pay10 a (up4 v) = addf a (wide v) := by unfold k0_pay10 wide; rw [down4]
theorem pay14_up (a : FVec F S64x256 .f32) (v : FVec F S64x256 .bf16) : k0_pay14 a (up4 v) = addf a (wide v) := by unfold k0_pay14 wide; rw [down4]
theorem pay16_up (a : FVec F S64x256 .f32) (v : FVec F S64x256 .bf16) : k0_pay16 a (up4 v) = addf a (wide v) := by unfold k0_pay16 wide; rw [down4]
theorem pay17_up (a : FVec F S64x256 .f32) (v : FVec F S64x256 .bf16) : k0_pay17 a (up4 v) = addf a (wide v) := by unfold k0_pay17 wide; rw [down4]
theorem pay11_up (a : FVec F S64x256 .f32) (v : FVec F S64x256 .bf16) : k0_pay11 a (up4 v) = up4 (truncf .bf16 (addf a (wide v)) bitsLt_bf16_f32) := by
  unfold k0_pay11; rw [pay10_up]; rfl
theorem pay18_up (a : FVec F S64x256 .f32) (v : FVec F S64x256 .bf16) : k0_pay18 a (up4 v) = up4 (truncf .bf16 (addf a (wide v)) bitsLt_bf16_f32) := by
  unfold k0_pay18; rw [pay17_up]; rfl
theorem pay20_up (v : FVec F S64x256 .bf16) : k0_pay20 (up4 v) = v := by unfold k0_pay20; rw [down4]
theorem pay19_up (v : FVec F S64x256 .bf16) : k0_pay19 (up4 v) = wide v := by unfold k0_pay19 wide; rw [down4]
theorem pay22_up (v : FVec F S64x256 .bf16) : k0_pay22 (up4 v) = wide v := by unfold k0_pay22 wide; rw [down4]
theorem pay23_up (v : FVec F S64x256 .bf16) : k0_pay23 (up4 v) = wide v := by unfold k0_pay23 wide; rw [down4]
theorem pay24_up (v : FVec F S64x256 .bf16) : k0_pay24 (up4 v) = wide v := by unfold k0_pay24 wide; rw [down4]
theorem pay25_up (v : FVec F S64x256 .bf16) : k0_pay25 (up4 v) = wide v := by unfold k0_pay25 wide; rw [down4]
theorem pay26_up (v : FVec F S64x256 .bf16) : k0_pay26 (up4 v) = wide v := by unfold k0_pay26 wide; rw [down4]
theorem pay27_up (v : FVec F S64x256 .bf16) : k0_pay27 (up4 v) = wide v := by unfold k0_pay27 wide; rw [down4]
theorem pay28_up (v : FVec F S64x256 .bf16) : k0_pay28 (up4 v) = wide v := by unfold k0_pay28 wide; rw [down4]
theorem pay29_up (v : FVec F S64x256 .bf16) : k0_pay29 (up4 v) = wide v := by unfold k0_pay29 wide; rw [down4]
theorem pay30_up (v : FVec F S64x256 .bf16) : k0_pay30 (up4 v) = wide v := by unfold k0_pay30 wide; rw [down4]
theorem pay31_up (v : FVec F S64x256 .bf16) : k0_pay31 (up4 v) = wide v := by unfold k0_pay31 wide; rw [down4]
theorem pay32_up (v : FVec F S64x256 .bf16) : k0_pay32 (up4 v) = wide v := by unfold k0_pay32 wide; rw [down4]
theorem pay33_up (v : FVec F S64x256 .bf16) : k0_pay33 (up4 v) = wide v := by unfold k0_pay33 wide; rw [down4]

/-! ## The places of the received blocks -/

theorem off13b (c : Dev nD) (k : Fin 7) : k0_off13 c (BitVec.ofNat 32 (1 + k.rev.val)) = ![0, (bwd c k).val, 0, 0] := by
  rw [k0_off13_eq]; revert c k; decide
theorem off15b (c : Dev nD) (k : Fin 7) : k0_off15 c (BitVec.ofNat 32 (1 + k.rev.val)) = ![1, (bwd c k).val, 0, 0] := by
  rw [k0_off15_eq]; revert c k; decide
theorem off14b (c : Dev nD) (k : Fin 7) : k0_off14 c (BitVec.ofNat 32 (1 + k.rev.val)) = ![64 * (bwd c k).val, 0] := by
  rw [k0_off14_eq]; revert c k; decide
theorem off16b (c : Dev nD) (k : Fin 7) : k0_off16 c (BitVec.ofNat 32 (1 + k.rev.val)) = ![64 * (bwd c k).val, 256] := by
  rw [k0_off16_eq]; revert c k; decide

end Cert.Mesh
-- ==== Proof.Parts.lean ====
/-
A part of the kernel's program, at the kernel's own buffers and semaphores.
-/

module

public import proofs.«01_k».proof.Proof.Moves

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- A part of the kernel, at the kernel's buffers and semaphores. -/
abbrev app {β : Type 1} (f : (a0 : Memref sig .tc .vmem S512x512 .f32) → a0.IsWhole → (a1 : Memref sig .tc .hbm S512x1024 .f32) → a1.IsWhole
    → (a2 : Memref sig .tc .hbm S512x1024 .f32) → a2.IsWhole → (a3 : Memref sig .tc .hbm S1024x512 .f32) → a3.IsWhole
    → (a4 : Memref sig .tc .vmem S512x512 .f32) → a4.IsWhole → (a5 : Memref sig .tc .vmem S512x1024 .f32) → a5.IsWhole
    → (a6 : Memref sig .tc .vmem S512x1024 .f32) → a6.IsWhole → (a7 : Memref sig .tc .vmem S2x1024x256 .f32) → a7.IsWhole
    → (a8 : Memref sig .tc .vmem S2x512x256 .bf16) → a8.IsWhole → (a9 : Memref sig .tc .vmem S2x7x64x256 .bf16) → a9.IsWhole
    → (a10 : Memref sig .tc .vmem S2x8x64x256 .bf16) → a10.IsWhole
    → DmaSems sig S4 → DmaSems sig S2x7 → DmaSems sig S2x7 → DmaSems sig S2x7 → DmaSems sig S2x7 → β) : β :=
  f xM (Memref.isWhole_whole _) wgH (Memref.isWhole_whole _) wuH (Memref.isWhole_whole _) wdH (Memref.isWhole_whole _) oM (Memref.isWhole_whole _)
    wgM (Memref.isWhole_whole _) wuM (Memref.isWhole_whole _) wdM (Memref.isWhole_whole _) pM (Memref.isWhole_whole _) rM (Memref.isWhole_whole _)
    gM (Memref.isWhole_whole _) cc0_scratch6 cc0_scratch7 cc0_scratch8 cc0_scratch9 cc0_scratch10

end Cert.Mesh
-- ==== Proof.Bundles.lean ====
/-
Bundles of seven and eight: opening them, a source's shares, what the barrier gives, what the messages take.
-/

module

public import proofs.«01_k».proof.Proof.Moves

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl
theorem open7 (Φ : Fin 7 → sProp 𝕄) : bigSep Finset.univ Φ ⊢ iprop(Φ 0 ∗ Φ 1 ∗ Φ 2 ∗ Φ 3 ∗ Φ 4 ∗ Φ 5 ∗ Φ 6) := Entails.of_eq (seven Φ)
theorem close7 (Φ : Fin 7 → sProp 𝕄) : Φ 0 ⊢ iprop(Φ 1 -∗ Φ 2 -∗ Φ 3 -∗ Φ 4 -∗ Φ 5 -∗ Φ 6 -∗ bigSep Finset.univ Φ) := by
  iintro H0 H1 H2 H3 H4 H5 H6
  iapply (Entails.of_eq (seven Φ).symm)
  isplitl [H0]; · iexact H0
  isplitl [H1]; · iexact H1
  isplitl [H2]; · iexact H2
  isplitl [H3]; · iexact H3
  isplitl [H4]; · iexact H4
  isplitl [H5]; · iexact H5
  iexact H6

/-- The eight devices: one, and where its seven messages go. -/
theorem round (Φ : Dev nD → sProp 𝕄) : bigSep Finset.univ Φ = iprop(Φ c ∗ bigSep Finset.univ (fun k => Φ (fwd c k))) := by
  have e : (Finset.univ : Finset (Dev nD)) = insert c (Finset.univ.map ⟨fwd c, fun k k' h => fwd_inj c k k' h⟩) := by revert c; decide
  have hc : c ∉ (Finset.univ.map ⟨fwd c, fun k k' h => fwd_inj c k k' h⟩ : Finset (Dev nD)) := by
    rw [Finset.mem_map]
    rintro ⟨k, -, h⟩
    exact fwd_ne c k h
  rw [e, bigSep_insert hc, bigSep_map]
  rfl
theorem flip7 (Φ : Fin 7 → sProp 𝕄) : bigSep Finset.univ Φ = bigSep Finset.univ (fun k : Fin 7 => Φ k.rev) :=
  bigSep_univ_equiv Fin.revPerm Φ
/-- The same by where they come from. -/
theorem roundb (Φ : Dev nD → sProp 𝕄) : bigSep Finset.univ Φ = iprop(Φ c ∗ bigSep Finset.univ (fun k => Φ (bwd c k))) := by
  rw [round c Φ, flip7 (fun k => Φ (fwd c k))]
  simp only [fwd_rev]

/-- A source's shares joined. -/
theorem gather_q {sp : Space} {S : Shape} {e : EltTy} (M : Memref sig .tc sp S e) (v : S.Idx → Elt F e) :
    (iprop(owns (c : Thread nD τ) M (Transfers.shareDrop fullShare 7) v ∗ bigSep Finset.univ (fun k : Fin 7 => owns (c : Thread nD τ) M (q7 k) v)) : sProp 𝕄)
      ⊢ owns (c : Thread nD τ) M fullShare v := by
  have h : ∀ (f : Buf (Elt F) (M.view.loc (c : Thread nD τ))) (q : PosShare TreeShare), M.view.read (Elt F) f = v →
      (owns (c : Thread nD τ) M q v : sProp 𝕄) ⊢ (M.view.loc (c : Thread nD τ) ↦[M.view.set]{q} f) := by
    intro f q hf
    unfold owns
    iintro ⟨%g, %hg, H⟩
    have key : ∀ i ∈ M.view.set, g i = f i := by
      intro i hi
      obtain ⟨x, -, rfl⟩ := Finset.mem_map.mp hi
      have h1 := congrFun (hg.trans hf.symm) x
      rw [View.read_apply, View.read_apply] at h1
      exact (cast_inj _).mp h1
    ihave H := (Entails.of_eq (pointsTo_congr key)) $$ H
    iexact H
  have h0 : (owns (c : Thread nD τ) M (Transfers.shareDrop fullShare 7) v : sProp 𝕄)
      ⊢ iprop(∃ f : Buf (Elt F) (M.view.loc (c : Thread nD τ)), ⌜M.view.read (Elt F) f = v⌝ ∗ (M.view.loc (c : Thread nD τ) ↦[M.view.set]{Transfers.shareDrop fullShare 7} f)) := by
    unfold owns; exact .rfl
  iintro ⟨H0, H⟩
  ihave H0 := h0 $$ H0
  icases H0 with ⟨%f, %hf, H0⟩
  have h2 : (bigSep Finset.univ (fun k : Fin 7 => owns (c : Thread nD τ) M (q7 k) v) : sProp 𝕄)
      ⊢ bigSep Finset.univ (fun k : Fin 7 => M.view.loc (c : Thread nD τ) ↦[M.view.set]{q7 k} f) := bigSep_mono fun k _ => h f _ hf
  ihave H := h2 $$ H
  ihave H := (Transfers.pointsTo_toks_join fullShare 7) $$ [H0 H]
  · isplitl [H0]; · iexact H0
    iexact H
  unfold owns
  iexists f
  isplitr; · ipureintro; exact hf
  iexact H

/-- What the barrier's wait hands over, sorted by the messages it is for. -/
theorem bar_give : (bigSep Finset.univ (fun k => barPay c k) : sProp 𝕄)
    ⊢ iprop((bigSep Finset.univ (fun k => anyAt (fwd c k) (rsSlot 0 k)) ∗ bigSep Finset.univ (fun k => anyAt (fwd c k) (rsSlot 1 k)))
      ∗ (bigSep Finset.univ (fun k => anyAt (fwd c k) (agSlot 0 c)) ∗ bigSep Finset.univ (fun k => anyAt (fwd c k) (agSlot 1 c)))) := by
  rw [flip7 (fun k => barPay c k)]
  unfold barPay
  simp only [Fin.rev_rev]
  rw [bigSep_sep', bigSep_sep', bigSep_sep']
/-- What is handed over for the seven signals. -/
theorem sig_take : (iprop((bigSep Finset.univ (fun k => anyAt c (rsSlot 0 k)) ∗ bigSep Finset.univ (fun k => anyAt c (rsSlot 1 k)))
      ∗ (bigSep Finset.univ (fun k => anyAt c (agSlot 0 (fwd c k))) ∗ bigSep Finset.univ (fun k => anyAt c (agSlot 1 (fwd c k))))) : sProp 𝕄)
    ⊢ bigSep Finset.univ (fun k => barPay (fwd c k) k) := by
  unfold barPay
  simp only [fwd_fwd_rev]
  rw [bigSep_sep', bigSep_sep', bigSep_sep', flip7 (fun k => anyAt c (rsSlot 0 k)), flip7 (fun k => anyAt c (rsSlot 1 k))]

/-- The rights a message takes: to pay its two cells, and the sender's place at its own. -/
def rsTok (h : Fin 2) (k : Fin 7) : sProp 𝕄 :=
  iprop((dutyTok ER (xCell c 0 h k) 0 (0 : Fin 7) ∗ dutyTok ER (xCell (fwd c k) 1 h k) 0 (0 : Fin 7)) ∗ atPos ER (xCell c 0 h k) 0 ∅ 0)
def agTok (h : Fin 2) (k : Fin 7) : sProp 𝕄 :=
  iprop((dutyTok ER (xCell c 2 h k) 0 (0 : Fin 7) ∗ dutyTok ER (xCell (fwd c k) 3 h k) 0 (0 : Fin 7)) ∗ atPos ER (xCell c 2 h k) 0 ∅ 0)

/-- With half `h` of the product done, and the places they land in held, the half's seven messages can be sent. -/
theorem rs_ready (h : Fin 2) : (owns (c : Thread nD τ) (pHalf h) fullShare (pD m c h) : sProp 𝕄)
    ⊢ iprop(bigSep Finset.univ (fun k => anyAt (fwd c k) (rsSlot h k)) -∗ bigSep Finset.univ (fun k => rsTok c h k)
      -∗ (owns (Val := Elt F) (c : Thread nD τ) (pBlk h c) fullShare (blk m c h c) ∗ bigSep Finset.univ (fun k => rsGo m c h k))) := by
  iintro H HL HT
  ihave H := (deal_pb m c h) $$ H
  ihave H := (Entails.of_eq (round c _)) $$ H
  icases H with ⟨H0, H⟩
  isplitl [H0]; · iexact H0
  have e : (iprop(bigSep Finset.univ (fun k => owns (Val := Elt F) (c : Thread nD τ) (pBlk h (fwd c k)) fullShare (blk m c h (fwd c k)))
        ∗ bigSep Finset.univ (fun k => anyAt (fwd c k) (rsSlot h k)) ∗ bigSep Finset.univ (fun k => rsTok c h k)) : sProp 𝕄)
      ⊢ bigSep Finset.univ (fun k => rsGo m c h k) := by
    rw [← bigSep_sep', ← bigSep_sep']
    refine bigSep_mono fun k _ => ?_
    exact (show (iprop(owns (Val := Elt F) (c : Thread nD τ) (pBlk h (fwd c k)) fullShare (blk m c h (fwd c k)) ∗ anyAt (fwd c k) (rsSlot h k) ∗ rsTok c h k) : sProp 𝕄) ⊢ rsGo m c h k from by
      unfold rsGo rsRes rsTok
      iintro ⟨A, B, ⟨C, D⟩, E⟩
      iframe)
  iapply e
  isplitl [H]; · iexact H
  isplitl [HL]; · iexact HL
  iexact HT

/-- With half `h` of its block summed, and the places they land in held, the sum's seven messages can be sent. -/
theorem ag_ready (h : Fin 2) : (owns (c : Thread nD τ) (agSlot h c) fullShare (agV m c h) : sProp 𝕄)
    ⊢ iprop(bigSep Finset.univ (fun k => anyAt (fwd c k) (agSlot h c)) -∗ bigSep Finset.univ (fun k => agTok c h k)
      -∗ (owns (Val := Elt F) (c : Thread nD τ) (agSlot h c) (Transfers.shareDrop fullShare 7) (agV m c h) ∗ bigSep Finset.univ (fun k => agGo m c h k))) := by
  iintro H HL HT
  ihave H := (deal_q c (agSlot h c) (agV m c h)) $$ H
  icases H with ⟨H0, H⟩
  isplitl [H0]; · iexact H0
  have e : (iprop(bigSep Finset.univ (fun k => owns (Val := Elt F) (c : Thread nD τ) (agSlot h c) (q7 k) (agV m c h))
        ∗ bigSep Finset.univ (fun k => anyAt (fwd c k) (agSlot h c)) ∗ bigSep Finset.univ (fun k => agTok c h k)) : sProp 𝕄)
      ⊢ bigSep Finset.univ (fun k => agGo m c h k) := by
    rw [← bigSep_sep', ← bigSep_sep']
    refine bigSep_mono fun k _ => ?_
    exact (show (iprop(owns (Val := Elt F) (c : Thread nD τ) (agSlot h c) (q7 k) (agV m c h) ∗ anyAt (fwd c k) (agSlot h c) ∗ agTok c h k) : sProp 𝕄) ⊢ agGo m c h k from by
      unfold agGo agRes agTok
      iintro ⟨A, B, ⟨C, D⟩, E⟩
      iframe)
  iapply e
  isplitl [H]; · iexact H
  isplitl [HL]; · iexact HL
  iexact HT

end Cert.Mesh
-- ==== Proof.PartsS.lean ====
/-
The kernel's first parts: the barrier's signals, the local copies of the weights, the hidden activations and the two halves of the partial product.
-/

module

public import proofs.«01_k».proof.Proof.Parts
public import proofs.«01_k».proof.Proof.Bundles

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- What the barrier signal number `k` takes: the right to give it, and what it hands over. -/
def sigGo (k : Fin 7) : sProp 𝕄 := iprop(dutyTok ER (barCell (fwd c k)) 0 k ∗ barPay (fwd c k) k)

theorem go_sig (k : Fin 7) (t : ℕ) (ht : t = k.val) {n : Dev nD} (hn : n = fwd c k) {z : ℤ} (hz : z = ((1 : ℕ) : ℤ))
    {α : Type} {Q : α → sProp 𝕄} {kont : PUnit → Prog (TpuEff nD τ sig (Elt F) Λ₀ .tc) α} :
    recs m K ⊢ iprop(owesE c t -∗ sigGo c k -∗ (owesE c (t + 1) -∗ WP c (kont ⟨⟩) Q)
      -∗ WP c (.op (.semSignal (Dev.tc n : Thread nD τ) barS z) kont) Q) := by
  subst ht hz
  unfold sigGo
  iintro #HR HO ⟨Ht, Hp⟩ Hk
  iapply (step_signal m K c k hn rfl) $$ HR HO Ht Hp Hk

theorem take_bar {z : ℤ} (hz : z = ((7 : ℕ) : ℤ)) {α : Type} {Q : α → sProp 𝕄} {kont : PUnit → Prog (TpuEff nD τ sig (Elt F) Λ₀ .tc) α} :
    recs m K ⊢ iprop(owesE c 7 -∗ atPos ER (barCell c) 0 ∅ 0 -∗ cred (tallyAt (barCell c) () 7)
      -∗ (owesE c 7 -∗ atPos ER (barCell c) 1 ∅ 0 -∗ bigSep Finset.univ (fun k => barPay c k) -∗ WP c (kont ⟨⟩) Q)
      -∗ WP c (.op (.semWait barS z) kont) Q) := by
  subst hz
  iintro #HR HO Ha Hc Hk
  iapply (step_wait_bar m K c rfl) $$ HR HO Ha Hc
  iintro ⟨HO, Ha, Hp⟩
  iapply Hk $$ HO Ha Hp

set_option backward.proofsInPublic true in
/-- The semaphores of the weights' copies. -/
def ws (i : Fin 4) : DmaSem sig := ⟨2 + i.val, by have := i.isLt; show _ < 62; omega⟩
theorem lv_ws (i : Fin 4) : lv ((c : Thread nD τ), SemLoc.dma (ws i)) () = 0 := by
  show (if 6 ≤ (ws i).val then _ else 0) = 0
  exact if_neg (by show ¬ 6 ≤ 2 + i.val; omega)
/-- A weights' semaphore at rest. -/
abbrev wsV (i : Fin 4) : sProp 𝕄 := semVal ((c : Thread nD τ), SemLoc.dma (ws i)) 0

/-- The memory's gate and up weights, and the staged activations, as the run holds them. -/
abbrev wgOwn : sProp 𝕄 := owns (Val := Elt F) (c : Thread nD τ) wgH fullShare (wgC m c)
abbrev wuOwn : sProp 𝕄 := owns (Val := Elt F) (c : Thread nD τ) wuH fullShare (wuC m c)
abbrev xOwn : sProp 𝕄 := owns (Val := Elt F) (c : Thread nD τ) xM fullShare (xC m c)
abbrev wdOwn (h : Fin 2) : sProp 𝕄 := owns (Val := Elt F) (c : Thread nD τ) (wdSrc h) fullShare (wdC m c h)

/-! ## Loads of whole buffers -/

theorem zero2 : (![0, 0] : Fin 2 → ℕ) = fun _ => 0 := by decide

theorem ld_x {q : PosShare TreeShare} {v : Vec F S512x512 .f32} {off : Fin 2 → ℕ} (ho : off = fun _ => 0) {inb : ∀ a, off a + S512x512.size a ≤ S512x512.size a} {hl}
    {α : Type} {Q : α → sProp 𝕄} {kont : Vec F S512x512 .f32 → Prog (TpuEff nD τ sig (Elt F) Λ₀ .tc) α} :
    (owns (c : Thread nD τ) xM q v : sProp 𝕄) ⊢ iprop((owns (c : Thread nD τ) xM q v -∗ WP c (kont v) Q)
      -∗ WP c (.op (.load xM (Rect.unit (s := S512x512) off S512x512.size inb).toLoadRect hl) kont) Q) :=
  load_full c ho
theorem ld_wg {q : PosShare TreeShare} {v : Vec F S512x1024 .f32} {off : Fin 2 → ℕ} (ho : off = fun _ => 0) {inb : ∀ a, off a + S512x1024.size a ≤ S512x1024.size a} {hl}
    {α : Type} {Q : α → sProp 𝕄} {kont : Vec F S512x1024 .f32 → Prog (TpuEff nD τ sig (Elt F) Λ₀ .tc) α} :
    (owns (c : Thread nD τ) wgM q v : sProp 𝕄) ⊢ iprop((owns (c : Thread nD τ) wgM q v -∗ WP c (kont v) Q)
      -∗ WP c (.op (.load wgM (Rect.unit (s := S512x1024) off S512x1024.size inb).toLoadRect hl) kont) Q) :=
  load_full c ho
theorem ld_wu {q : PosShare TreeShare} {v : Vec F S512x1024 .f32} {off : Fin 2 → ℕ} (ho : off = fun _ => 0) {inb : ∀ a, off a + S512x1024.size a ≤ S512x1024.size a} {hl}
    {α : Type} {Q : α → sProp 𝕄} {kont : Vec F S512x1024 .f32 → Prog (TpuEff nD τ sig (Elt F) Λ₀ .tc) α} :
    (owns (c : Thread nD τ) wuM q v : sProp 𝕄) ⊢ iprop((owns (c : Thread nD τ) wuM q v -∗ WP c (kont v) Q)
      -∗ WP c (.op (.load wuM (Rect.unit (s := S512x1024) off S512x1024.size inb).toLoadRect hl) kont) Q) :=
  load_full c ho

set_option maxHeartbeats 2000000 in
/-- Part 1: five of the barrier's signals. -/
theorem part1 {Q : (Σ' (d0 : Dev nD) (v2 : BitVec 32) (v3 : Sems sig S_) (v24 : BitVec 32), BitVec 32) → sProp 𝕄} :
    recs m K ⊢ iprop(owesE c 0 -∗ sigGo c 0 -∗ sigGo c 1 -∗ sigGo c 2 -∗ sigGo c 3 -∗ sigGo c 4
      -∗ (∀ u v w, owesE c 5 -∗ Q ⟨c, u, SemArray.scalar (sig.barrier 0 rfl), v, w⟩)
      -∗ WP c (app (k0_part1 (F := F))) Q) := by
  rw [k0_part1_eq_skeleton]
  unfold k0_part1_skel
  simp only [semSignalWord, Prog.lift, Prog.bind_op, Prog.bind_ret, Prog.pure_eq_ret, wp_deviceId]
  iintro #HR HO H0 H1 H2 H3 H4 Hk
  iapply (go_sig m K c 0 0 rfl (Fin.ext (k0_dev1_eq c)) rfl) $$ HR HO H0
  iintro HO
  iapply (go_sig m K c 1 1 rfl (Fin.ext (k0_dev2_eq c)) rfl) $$ HR HO H1
  iintro HO
  iapply (go_sig m K c 2 2 rfl (Fin.ext (k0_dev3_eq c)) rfl) $$ HR HO H2
  iintro HO
  iapply (go_sig m K c 3 3 rfl (Fin.ext (k0_dev4_eq c)) rfl) $$ HR HO H3
  iintro HO
  iapply (go_sig m K c 4 4 rfl (Fin.ext (k0_dev5_eq c)) rfl) $$ HR HO H4
  iintro HO
  iapply (fin c _)
  iapply Hk $$ %_ %_ %_ HO

set_option maxHeartbeats 2000000 in
/-- Part 2: the last two signals, the weights' copies started, the gate weights waited for and loaded. -/
theorem part2 (v2 v24 v8 : BitVec 32) {Q : (Σ' (v49 : FVec F S512x512 .f32), Vec F S512x1024 .f32) → sProp 𝕄} :
    recs m K ⊢ iprop(owesE c 5 -∗ sigGo c 5 -∗ sigGo c 6 -∗ wgOwn m c -∗ anyAt c wgM -∗ wsV c 0 -∗ wuOwn m c -∗ anyAt c wuM -∗ wsV c 1
      -∗ wdOwn m c 0 -∗ anyAt c (wdDst 0) -∗ wsV c 2 -∗ wdOwn m c 1 -∗ anyAt c (wdDst 1) -∗ wsV c 3 -∗ xOwn m c
      -∗ (owesE c 7 -∗ wgOwn m c -∗ anyAt c wgM -∗ wsV c 0 -∗ copying c wuH wuM (ws 1) (wuC m c)
        -∗ copying c (wdSrc 0) (wdDst 0) (ws 2) (wdC m c 0) -∗ copying c (wdSrc 1) (wdDst 1) (ws 3) (wdC m c 1) -∗ xOwn m c
        -∗ Q ⟨k0_pay1 (xC m c), wgC m c⟩)
      -∗ WP c (app (k0_part2 (F := F)) c v2 (SemArray.scalar (sig.barrier 0 rfl)) v24 v8) Q) := by
  rw [k0_part2_eq_skeleton]
  unfold k0_part2_skel
  simp only [semSignalWord, Prog.lift, Prog.bind_op, Prog.bind_ret, Prog.pure_eq_ret]
  iintro #HR HO H5 H6 Hg Hgd Hg0 Hu Hud Hu0 Hd Hdd Hd0 He Hed He0 Hx Hk
  iapply (go_sig m K c 5 5 rfl (Fin.ext (k0_dev6_eq c)) rfl) $$ HR HO H5
  iintro HO
  iapply (go_sig m K c 6 6 rfl (Fin.ext (k0_dev7_eq c)) rfl) $$ HR HO H6
  iintro HO
  iapply (copy_start c (src := wgH) (dst := wgM) (sm := ws 0) rfl (View.amount_pos _ _ (by decide))) $$ Hg Hgd Hg0
  iintro Cg
  iapply (copy_start c (src := wuH) (dst := wuM) (sm := ws 1) rfl (View.amount_pos _ _ (by decide))) $$ Hu Hud Hu0
  iintro Cu
  iapply (copy_start c (src := wdSrc 0) (dst := wdDst 0) (sm := ws 2) rfl (View.amount_pos _ _ (by decide))) $$ Hd Hdd Hd0
  iintro Cd
  iapply (copy_start c (src := wdSrc 1) (dst := wdDst 1) (sm := ws 3) rfl (View.amount_pos _ _ (by decide))) $$ He Hed He0
  iintro Ce
  iapply (copy_wait m c K (src := wgH) (dst := wgM) (sm := ws 0) rfl 7 (lv_ws c 0) rfl) $$ HR HO Cg
  iintro ⟨HO, Hgd, Hg, Hg0⟩
  iapply (ld_x c zero2) $$ Hx
  iintro Hx
  iapply (ld_wg c zero2) $$ Hgd
  iintro Hgd
  ihave Hgd := (owns_any) $$ Hgd
  iapply (fin c _)
  iapply Hk $$ HO Hg Hgd Hg0 Cu Cd Ce Hx

theorem pay3_up (x : FVec F S512x512 .f32) (g : Vec F S512x1024 .f32) (x' : Vec F S512x512 .f32) (u : Vec F S512x1024 .f32) (w : FVec F S1024x256 .f32) :
    k0_pay3 x g x' u (upW w) = shapeCast S1x512x256 (truncf .bf16 (matmul dot_S512x1024_S1024x256_S512x256_1_0_0_1_n_n none (k0_pay2 x g x' u) w
      (constant S512x256 .f32 0x00000000#32)) bitsLt_bf16_f32 : FVec F S512x256 .bf16) shapeCasts_S512x256_S1x512x256 := by
  unfold k0_pay3; rw [downW]
theorem pay4_up (a : FVec F S512x1024 .f32) (w : FVec F S1024x256 .f32) :
    k0_pay4 a (upW w) = shapeCast S1x512x256 (truncf .bf16 (matmul dot_S512x1024_S1024x256_S512x256_1_0_0_1_n_n none a w
      (constant S512x256 .f32 0x00000000#32)) bitsLt_bf16_f32 : FVec F S512x256 .bf16) shapeCasts_S512x256_S1x512x256 := by
  unfold k0_pay4; rw [downW]

/-- Part 3: the other weights waited for and loaded, the hidden activations, the first half of the product, the barrier. -/
theorem part3 (v2 : BitVec 32) {Q : (Σ' (v60 : FVec F S512x1024 .f32), BitVec 32) → sProp 𝕄} :
    recs m K ⊢ iprop(owesE c 7 -∗ copying c wuH wuM (ws 1) (wuC m c) -∗ copying c (wdSrc 0) (wdDst 0) (ws 2) (wdC m c 0) -∗ xOwn m c
      -∗ anyAt c (pHalf 0) -∗ atPos ER (barCell c) 0 ∅ 0 -∗ cred (tallyAt (barCell c) () 7)
      -∗ (∀ u, owesE c 7 -∗ wuOwn m c -∗ anyAt c wuM -∗ wsV c 1 -∗ wdOwn m c 0 -∗ anyAt c (wdDst 0) -∗ wsV c 2 -∗ xOwn m c
        -∗ owns (c : Thread nD τ) (pHalf 0) fullShare (pD m c 0) -∗ atPos ER (barCell c) 1 ∅ 0 -∗ bigSep Finset.univ (fun k => barPay c k)
        -∗ Q ⟨act m c, u⟩)
      -∗ WP c (app (k0_part3 (F := F)) v2 (SemArray.scalar (sig.barrier 0 rfl)) (k0_pay1 (xC m c)) (wgC m c)) Q) := by
  rw [k0_part3_eq_skeleton]
  unfold k0_part3_skel
  simp only [semWaitWord, Prog.lift, Prog.bind_op, Prog.bind_ret, Prog.pure_eq_ret]
  iintro #HR HO Cu Cd Hx Hp Ha Hc Hk
  iapply (copy_wait m c K (src := wuH) (dst := wuM) (sm := ws 1) rfl 7 (lv_ws c 1) rfl) $$ HR HO Cu
  iintro ⟨HO, Hud, Hu, Hu0⟩
  iapply (ld_x c zero2) $$ Hx
  iintro Hx
  iapply (ld_wu c zero2) $$ Hud
  iintro Hud
  ihave Hud := (owns_any) $$ Hud
  iapply (copy_wait m c K (src := wdSrc 0) (dst := wdDst 0) (sm := ws 2) rfl 7 (lv_ws c 2) rfl) $$ HR HO Cd
  iintro ⟨HO, Hdd, Hd, Hd0⟩
  iapply (ld_wd c 0 rfl) $$ Hdd
  iintro Hdd
  ihave Hdd := (owns_any) $$ Hdd
  iapply (ld_ph_any c 0 rfl) $$ Hp
  iintro %_ Hp
  iapply (st_ph c 0 rfl (pD m c 0) (pay3_up _ _ _ _ _)) $$ Hp
  iintro Hp
  iapply (take_bar m K c rfl) $$ HR HO Ha Hc
  iintro HO Ha Hb
  iapply (fin c _)
  rw [show k0_pay2 (k0_pay1 (xC m c)) (wgC m c) (xC m c) (wuC m c) = act m c from rfl]
  iapply Hk $$ %_ HO Hu Hud Hu0 Hd Hdd Hd0 Hx Hp Ha Hb

/-- Part 9: the second half of the down weights waited for, the second half of the product, and the first of its messages. -/
theorem part9 (v2 : BitVec 32) {Q : (Σ' (v226 : BitVec 32), BitVec 32) → sProp 𝕄} :
    recs m K ⊢ iprop(owesE c 14 -∗ copying c (wdSrc 1) (wdDst 1) (ws 3) (wdC m c 1) -∗ anyAt c (pHalf 1)
      -∗ bigSep Finset.univ (fun k => anyAt (fwd c k) (rsSlot 1 k)) -∗ bigSep Finset.univ (fun k => rsTok c 1 k)
      -∗ (∀ u, owesE c 15 -∗ wdOwn m c 1 -∗ anyAt c (wdDst 1) -∗ wsV c 3
        -∗ owns (Val := Elt F) (c : Thread nD τ) (pBlk 1 c) fullShare (blk m c 1 c) -∗ ready c 0 1 0
        -∗ rsGo m c 1 1 -∗ rsGo m c 1 2 -∗ rsGo m c 1 3 -∗ rsGo m c 1 4 -∗ rsGo m c 1 5 -∗ rsGo m c 1 6 -∗ Q u)
      -∗ WP c (app (k0_part9 (F := F)) c v2 (act m c)) Q) := by
  rw [k0_part9_eq_skeleton]
  unfold k0_part9_skel
  simp only [Prog.lift, Prog.bind_op, Prog.bind_ret, Prog.pure_eq_ret]
  iintro #HR HO Cd Hp HL HT Hk
  iapply (copy_wait m c K (src := wdSrc 1) (dst := wdDst 1) (sm := ws 3) rfl 14 (lv_ws c 3) rfl) $$ HR HO Cd
  iintro ⟨HO, Hdd, Hd, Hd0⟩
  iapply (ld_wd c 1 rfl) $$ Hdd
  iintro Hdd
  ihave Hdd := (owns_any) $$ Hdd
  iapply (ld_ph_any c 1 rfl) $$ Hp
  iintro %_ Hp
  iapply (st_ph c 1 rfl (pD m c 1) (pay4_up _ _)) $$ Hp
  iintro Hp
  ihave Hp := (rs_ready m c 1) $$ Hp HL HT
  icases Hp with ⟨Hp, HG⟩
  ihave HG := (open7 _) $$ HG
  icases HG with ⟨H0, H1, H2, H3, H4, H5, H6⟩
  iapply (go_rs m K c 1 0 14 rfl (Fin.ext (k0_dev15_eq c)) (k0_off3_eq c 0) rfl rfl rfl) $$ HR HO H0
  iintro HO H0
  iapply (fin c _)
  iapply Hk $$ %_ HO Hd Hdd Hd0 Hp H0 H1 H2 H3 H4 H5 H6

end Cert.Mesh
-- ==== Proof.PartsA.lean ====
/-
The kernel's parts that send the partial products.
-/

module

public import proofs.«01_k».proof.Proof.Parts

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Part 4: sends of the reduce-scatter. -/
theorem part4 (v2 : BitVec 32) (v74 : BitVec 32) {Q : (BitVec 32) → sProp 𝕄} :
    recs m K ⊢ iprop(owesE c 7 -∗ rsGo m c 0 0
      -∗ (∀ u, owesE c 8 -∗ ready c 0 0 0 -∗ Q u)
      -∗ WP c (app (k0_part4 (F := F)) c v2 v74) Q) := by
  rw [k0_part4_eq_skeleton]
  unfold k0_part4_skel
  simp only [Prog.lift, Prog.bind_op, Prog.bind_ret, Prog.pure_eq_ret]
  iintro #HR HO H1 Hk
  iapply (go_rs m K c 0 0 7 rfl (Fin.ext (k0_dev8_eq c)) (k0_off2_eq c 0) rfl rfl rfl) $$ HR HO H1
  iintro HO H2
  iapply (fin c _)
  iapply Hk $$ %_ HO H2

/-- Part 5: sends of the reduce-scatter. -/
theorem part5 (v2 : BitVec 32) {Q : (Σ' (v114 : BitVec 32) (v133 : BitVec 32), BitVec 32) → sProp 𝕄} :
    recs m K ⊢ iprop(owesE c 8 -∗ rsGo m c 0 1 -∗ rsGo m c 0 2
      -∗ (∀ u, owesE c 10 -∗ ready c 0 0 1 -∗ ready c 0 0 2 -∗ Q u)
      -∗ WP c (app (k0_part5 (F := F)) c v2) Q) := by
  rw [k0_part5_eq_skeleton]
  unfold k0_part5_skel
  simp only [Prog.lift, Prog.bind_op, Prog.bind_ret, Prog.pure_eq_ret]
  iintro #HR HO H1 H3 Hk
  iapply (go_rs m K c 0 1 8 rfl (Fin.ext (k0_dev9_eq c)) (k0_off2_eq c 1) rfl rfl rfl) $$ HR HO H1
  iintro HO H2
  iapply (go_rs m K c 0 2 9 rfl (Fin.ext (k0_dev10_eq c)) (k0_off2_eq c 2) rfl rfl rfl) $$ HR HO H3
  iintro HO H4
  iapply (fin c _)
  iapply Hk $$ %_ HO H2 H4

/-- Part 6: sends of the reduce-scatter. -/
theorem part6 (v2 : BitVec 32) (v133 : BitVec 32) (c8_i32_131 : BitVec 32) {Q : (Σ' (v134 : BitVec 32), BitVec 32) → sProp 𝕄} :
    recs m K ⊢ iprop(owesE c 10 -∗ rsGo m c 0 3
      -∗ (∀ u, owesE c 11 -∗ ready c 0 0 3 -∗ Q u)
      -∗ WP c (app (k0_part6 (F := F)) c v2 v133 c8_i32_131) Q) := by
  rw [k0_part6_eq_skeleton]
  unfold k0_part6_skel
  simp only [Prog.lift, Prog.bind_op, Prog.bind_ret, Prog.pure_eq_ret]
  iintro #HR HO H1 Hk
  iapply (go_rs m K c 0 3 10 rfl (Fin.ext (k0_dev11_eq c)) (k0_off2_eq c 3) rfl rfl rfl) $$ HR HO H1
  iintro HO H2
  iapply (fin c _)
  iapply Hk $$ %_ HO H2

/-- Part 7: sends of the reduce-scatter. -/
theorem part7 (v2 : BitVec 32) {Q : (BitVec 32) → sProp 𝕄} :
    recs m K ⊢ iprop(owesE c 11 -∗ rsGo m c 0 4
      -∗ (∀ u, owesE c 12 -∗ ready c 0 0 4 -∗ Q u)
      -∗ WP c (app (k0_part7 (F := F)) c v2) Q) := by
  rw [k0_part7_eq_skeleton]
  unfold k0_part7_skel
  simp only [Prog.lift, Prog.bind_op, Prog.bind_ret, Prog.pure_eq_ret]
  iintro #HR HO H1 Hk
  iapply (go_rs m K c 0 4 11 rfl (Fin.ext (k0_dev12_eq c)) (k0_off2_eq c 4) rfl rfl rfl) $$ HR HO H1
  iintro HO H2
  iapply (fin c _)
  iapply Hk $$ %_ HO H2

/-- Part 8: sends of the reduce-scatter. -/
theorem part8 (v2 : BitVec 32) {Q : (BitVec 32) → sProp 𝕄} :
    recs m K ⊢ iprop(owesE c 12 -∗ rsGo m c 0 5 -∗ rsGo m c 0 6
      -∗ (∀ u, owesE c 14 -∗ ready c 0 0 5 -∗ ready c 0 0 6 -∗ Q u)
      -∗ WP c (app (k0_part8 (F := F)) c v2) Q) := by
  rw [k0_part8_eq_skeleton]
  unfold k0_part8_skel
  simp only [Prog.lift, Prog.bind_op, Prog.bind_ret, Prog.pure_eq_ret]
  iintro #HR HO H1 H3 Hk
  iapply (go_rs m K c 0 5 12 rfl (Fin.ext (k0_dev13_eq c)) (k0_off2_eq c 5) rfl rfl rfl) $$ HR HO H1
  iintro HO H2
  iapply (go_rs m K c 0 6 13 rfl (Fin.ext (k0_dev14_eq c)) (k0_off2_eq c 6) rfl rfl rfl) $$ HR HO H3
  iintro HO H4
  iapply (fin c _)
  iapply Hk $$ %_ HO H2 H4

/-- Part 10: sends of the reduce-scatter. -/
theorem part10 (v2 : BitVec 32) (c2_i32_252 : BitVec 32) {Q : (Σ' (v246 : BitVec 32), BitVec 32) → sProp 𝕄} :
    recs m K ⊢ iprop(owesE c 15 -∗ rsGo m c 1 1
      -∗ (∀ u, owesE c 16 -∗ ready c 0 1 1 -∗ Q u)
      -∗ WP c (app (k0_part10 (F := F)) c v2 c2_i32_252) Q) := by
  rw [k0_part10_eq_skeleton]
  unfold k0_part10_skel
  simp only [Prog.lift, Prog.bind_op, Prog.bind_ret, Prog.pure_eq_ret]
  iintro #HR HO H1 Hk
  iapply (go_rs m K c 1 1 15 rfl (Fin.ext (k0_dev16_eq c)) (k0_off3_eq c 1) rfl rfl rfl) $$ HR HO H1
  iintro HO H2
  iapply (fin c _)
  iapply Hk $$ %_ HO H2

/-- Part 11: sends of the reduce-scatter. -/
theorem part11 (v2 : BitVec 32) {Q : (BitVec 32) → sProp 𝕄} :
    recs m K ⊢ iprop(owesE c 16 -∗ rsGo m c 1 2
      -∗ (∀ u, owesE c 17 -∗ ready c 0 1 2 -∗ Q u)
      -∗ WP c (app (k0_part11 (F := F)) c v2) Q) := by
  rw [k0_part11_eq_skeleton]
  unfold k0_part11_skel
  simp only [Prog.lift, Prog.bind_op, Prog.bind_ret, Prog.pure_eq_ret]
  iintro #HR HO H1 Hk
  iapply (go_rs m K c 1 2 16 rfl (Fin.ext (k0_dev17_eq c)) (k0_off3_eq c 2) rfl rfl rfl) $$ HR HO H1
  iintro HO H2
  iapply (fin c _)
  iapply Hk $$ %_ HO H2

/-- Part 12: sends of the reduce-scatter. -/
theorem part12 (v2 : BitVec 32) {Q : (Σ' (v306 : BitVec 32), BitVec 32) → sProp 𝕄} :
    recs m K ⊢ iprop(owesE c 17 -∗ rsGo m c 1 3 -∗ rsGo m c 1 4
      -∗ (∀ u, owesE c 19 -∗ ready c 0 1 3 -∗ ready c 0 1 4 -∗ Q u)
      -∗ WP c (app (k0_part12 (F := F)) c v2) Q) := by
  rw [k0_part12_eq_skeleton]
  unfold k0_part12_skel
  simp only [Prog.lift, Prog.bind_op, Prog.bind_ret, Prog.pure_eq_ret]
  iintro #HR HO H1 H3 Hk
  iapply (go_rs m K c 1 3 17 rfl (Fin.ext (k0_dev18_eq c)) (k0_off3_eq c 3) rfl rfl rfl) $$ HR HO H1
  iintro HO H2
  iapply (go_rs m K c 1 4 18 rfl (Fin.ext (k0_dev19_eq c)) (k0_off3_eq c 4) rfl rfl rfl) $$ HR HO H3
  iintro HO H4
  iapply (fin c _)
  iapply Hk $$ %_ HO H2 H4

/-- Part 13: sends of the reduce-scatter. -/
theorem part13 (v2 : BitVec 32) (v326 : BitVec 32) {Q : (BitVec 32) → sProp 𝕄} :
    recs m K ⊢ iprop(owesE c 19 -∗ rsGo m c 1 5
      -∗ (∀ u, owesE c 20 -∗ ready c 0 1 5 -∗ Q u)
      -∗ WP c (app (k0_part13 (F := F)) c v2 v326) Q) := by
  rw [k0_part13_eq_skeleton]
  unfold k0_part13_skel
  simp only [Prog.lift, Prog.bind_op, Prog.bind_ret, Prog.pure_eq_ret]
  iintro #HR HO H1 Hk
  iapply (go_rs m K c 1 5 19 rfl (Fin.ext (k0_dev20_eq c)) (k0_off3_eq c 5) rfl rfl rfl) $$ HR HO H1
  iintro HO H2
  iapply (fin c _)
  iapply Hk $$ %_ HO H2

end Cert.Mesh
-- ==== Proof.PartsB.lean ====
/-
The kernel's parts that add what landed and send the sums.
-/

module

public import proofs.«01_k».proof.Proof.Parts

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Part 14: sends of the reduce-scatter, landed blocks are waited for and added. -/
theorem part14 (v2 : BitVec 32) (v74 : BitVec 32) {Q : (FVec F S64x256 .f32) → sProp 𝕄} :
    recs m K ⊢ iprop(owesE c 20 -∗ rsGo m c 1 6 -∗ owns (c : Thread nD τ) (pBlk 0 c) fullShare (blk m c 0 c) -∗ ready c 1 0 0
      -∗ (owesE c 21 -∗ ready c 0 1 6 -∗ owns (c : Thread nD τ) (pBlk 0 c) fullShare (blk m c 0 c) -∗ done c 1 0 0 -∗ rsIn m c 0 0 -∗ Q (wide (blk m c 0 c)))
      -∗ WP c (app (k0_part14 (F := F)) c v2 v74) Q) := by
  rw [k0_part14_eq_skeleton]
  unfold k0_part14_skel
  simp only [Prog.lift, Prog.bind_op, Prog.bind_ret, Prog.pure_eq_ret]
  iintro #HR HO H1 H3 H4 Hk
  iapply (go_rs m K c 1 6 20 rfl (Fin.ext (k0_dev21_eq c)) (k0_off3_eq c 6) rfl rfl rfl) $$ HR HO H1
  iintro HO H2
  iapply (ld_p c 0 c (k0_off4_eq c)) $$ H3
  iintro H3
  iapply (take_r m K c 0 0 21 (by decide) rfl) $$ HR HO H4
  iintro HO H5 H6
  iapply (fin c _)
  rw [pay5_up]
  iapply Hk $$ HO H2 H3 H5 H6

/-- Part 15: landed blocks are waited for and added. -/
theorem part15 (v94 : BitVec 32) (v114 : BitVec 32) (v369 : FVec F S64x256 .f32) {Q : (FVec F S64x256 .f32) → sProp 𝕄} :
    recs m K ⊢ iprop(owesE c 21 -∗ rsIn m c 0 0 -∗ ready c 1 0 1
      -∗ (owesE c 21 -∗ rsIn m c 0 0 -∗ done c 1 0 1 -∗ rsIn m c 0 1 -∗ Q (addf (addf v369 (wide (blk m (bwd c 0) 0 c))) (wide (blk m (bwd c 1) 0 c))))
      -∗ WP c (app (k0_part15 (F := F)) c v94 v114 v369) Q) := by
  rw [k0_part15_eq_skeleton]
  unfold k0_part15_skel
  simp only [Prog.lift, Prog.bind_op, Prog.bind_ret, Prog.pure_eq_ret]
  iintro #HR HO H1 H2 Hk
  iapply (ld_r c 0 0 rfl) $$ H1
  iintro H1
  iapply (take_r m K c 0 1 21 (by decide) rfl) $$ HR HO H2
  iintro HO H3 H4
  iapply (ld_r c 0 1 rfl) $$ H4
  iintro H4
  iapply (fin c _)
  rw [pay6_up]
  iapply Hk $$ HO H1 H3 H4

/-- Part 16: landed blocks are waited for and added. -/
theorem part16 (v134 : BitVec 32) (v403 : FVec F S64x256 .f32) {Q : (FVec F S64x256 .f32) → sProp 𝕄} :
    recs m K ⊢ iprop(owesE c 21 -∗ ready c 1 0 2 -∗ ready c 1 0 3
      -∗ (owesE c 21 -∗ done c 1 0 2 -∗ rsIn m c 0 2 -∗ done c 1 0 3 -∗ rsIn m c 0 3 -∗ Q (addf v403 (wide (blk m (bwd c 2) 0 c))))
      -∗ WP c (app (k0_part16 (F := F)) c v134 v403) Q) := by
  rw [k0_part16_eq_skeleton]
  unfold k0_part16_skel
  simp only [Prog.lift, Prog.bind_op, Prog.bind_ret, Prog.pure_eq_ret]
  iintro #HR HO H1 H4 Hk
  iapply (take_r m K c 0 2 21 (by decide) rfl) $$ HR HO H1
  iintro HO H2 H3
  iapply (ld_r c 0 2 rfl) $$ H3
  iintro H3
  iapply (take_r m K c 0 3 21 (by decide) rfl) $$ HR HO H4
  iintro HO H5 H6
  iapply (fin c _)
  rw [pay7_up]
  iapply Hk $$ HO H2 H3 H5 H6

/-- Part 17: landed blocks are waited for and added. -/
theorem part17 (v154 : BitVec 32) (v174 : BitVec 32) (v420 : FVec F S64x256 .f32) {Q : (FVec F S64x256 .f32) → sProp 𝕄} :
    recs m K ⊢ iprop(owesE c 21 -∗ rsIn m c 0 3 -∗ ready c 1 0 4
      -∗ (owesE c 21 -∗ rsIn m c 0 3 -∗ done c 1 0 4 -∗ rsIn m c 0 4 -∗ Q (addf (addf v420 (wide (blk m (bwd c 3) 0 c))) (wide (blk m (bwd c 4) 0 c))))
      -∗ WP c (app (k0_part17 (F := F)) c v154 v174 v420) Q) := by
  rw [k0_part17_eq_skeleton]
  unfold k0_part17_skel
  simp only [Prog.lift, Prog.bind_op, Prog.bind_ret, Prog.pure_eq_ret]
  iintro #HR HO H1 H2 Hk
  iapply (ld_r c 0 3 rfl) $$ H1
  iintro H1
  iapply (take_r m K c 0 4 21 (by decide) rfl) $$ HR HO H2
  iintro HO H3 H4
  iapply (ld_r c 0 4 rfl) $$ H4
  iintro H4
  iapply (fin c _)
  rw [pay8_up]
  iapply Hk $$ HO H1 H3 H4

/-- Part 18: landed blocks are waited for and added. -/
theorem part18 (v194 : BitVec 32) (v454 : FVec F S64x256 .f32) {Q : (FVec F S64x256 .f32) → sProp 𝕄} :
    recs m K ⊢ iprop(owesE c 21 -∗ ready c 1 0 5 -∗ ready c 1 0 6
      -∗ (owesE c 21 -∗ done c 1 0 5 -∗ rsIn m c 0 5 -∗ done c 1 0 6 -∗ rsIn m c 0 6 -∗ Q (addf v454 (wide (blk m (bwd c 5) 0 c))))
      -∗ WP c (app (k0_part18 (F := F)) c v194 v454) Q) := by
  rw [k0_part18_eq_skeleton]
  unfold k0_part18_skel
  simp only [Prog.lift, Prog.bind_op, Prog.bind_ret, Prog.pure_eq_ret]
  iintro #HR HO H1 H4 Hk
  iapply (take_r m K c 0 5 21 (by decide) rfl) $$ HR HO H1
  iintro HO H2 H3
  iapply (ld_r c 0 5 rfl) $$ H3
  iintro H3
  iapply (take_r m K c 0 6 21 (by decide) rfl) $$ HR HO H4
  iintro HO H5 H6
  iapply (fin c _)
  rw [pay9_up]
  iapply Hk $$ HO H2 H3 H5 H6

/-- Part 19: the last block is added and the sum stored twice. -/
theorem part19 (v2 : BitVec 32) (v471 : FVec F S64x256 .f32) {Q : (BitVec 32) → sProp 𝕄} :
    recs m K ⊢ iprop(owesE c 21 -∗ rsIn m c 0 6 -∗ anyAt c (outSlot 0 c) -∗ anyAt c (agSlot 0 c)
      -∗ (∀ u, owesE c 21 -∗ rsIn m c 0 6 -∗ owns (c : Thread nD τ) (outSlot 0 c) fullShare (addf v471 (wide (blk m (bwd c 6) 0 c))) -∗ owns (c : Thread nD τ) (agSlot 0 c) fullShare (truncf .bf16 (addf v471 (wide (blk m (bwd c 6) 0 c))) bitsLt_bf16_f32) -∗ Q u)
      -∗ WP c (app (k0_part19 (F := F)) c v2 v471) Q) := by
  rw [k0_part19_eq_skeleton]
  unfold k0_part19_skel
  simp only [Prog.lift, Prog.bind_op, Prog.bind_ret, Prog.pure_eq_ret]
  iintro #HR HO H1 H2 H3 Hk
  iapply (ld_r c 0 6 rfl) $$ H1
  iintro H1
  iapply (ld_o_any c 0 c (k0_off5_eq c)) $$ H2
  iintro %_ H2
  iapply (st_o c 0 c (k0_off5_eq c) (addf v471 (wide (blk m (bwd c 6) 0 c))) (pay10_up _ _)) $$ H2
  iintro H2
  iapply (ld_g_any c 0 c (k0_off6_eq c)) $$ H3
  iintro %_ H3
  iapply (st_g c 0 c (k0_off6_eq c) (truncf .bf16 (addf v471 (wide (blk m (bwd c 6) 0 c))) bitsLt_bf16_f32) (pay11_up _ _)) $$ H3
  iintro H3
  iapply (fin c _)
  iapply Hk $$ %_ HO H1 H2 H3

/-- Part 20: sends of the all-gather. -/
theorem part20 (v2 : BitVec 32) {Q : (Σ' (v518 : BitVec 32), BitVec 32) → sProp 𝕄} :
    recs m K ⊢ iprop(owesE c 21 -∗ agGo m c 0 0 -∗ agGo m c 0 1
      -∗ (∀ u, owesE c 23 -∗ ready c 2 0 0 -∗ ready c 2 0 1 -∗ Q u)
      -∗ WP c (app (k0_part20 (F := F)) c v2) Q) := by
  rw [k0_part20_eq_skeleton]
  unfold k0_part20_skel
  simp only [Prog.lift, Prog.bind_op, Prog.bind_ret, Prog.pure_eq_ret]
  iintro #HR HO H1 H3 Hk
  iapply (go_ag m K c 0 0 21 rfl (Fin.ext (k0_dev22_eq c)) (k0_off8_eq c) rfl rfl) $$ HR HO H1
  iintro HO H2
  iapply (go_ag m K c 0 1 22 rfl (Fin.ext (k0_dev23_eq c)) (k0_off8_eq c) rfl rfl) $$ HR HO H3
  iintro HO H4
  iapply (fin c _)
  iapply Hk $$ %_ HO H2 H4

/-- Part 21: sends of the all-gather. -/
theorem part21 (v2 : BitVec 32) {Q : (BitVec 32) → sProp 𝕄} :
    recs m K ⊢ iprop(owesE c 23 -∗ agGo m c 0 2
      -∗ (∀ u, owesE c 24 -∗ ready c 2 0 2 -∗ Q u)
      -∗ WP c (app (k0_part21 (F := F)) c v2) Q) := by
  rw [k0_part21_eq_skeleton]
  unfold k0_part21_skel
  simp only [Prog.lift, Prog.bind_op, Prog.bind_ret, Prog.pure_eq_ret]
  iintro #HR HO H1 Hk
  iapply (go_ag m K c 0 2 23 rfl (Fin.ext (k0_dev24_eq c)) (k0_off8_eq c) rfl rfl) $$ HR HO H1
  iintro HO H2
  iapply (fin c _)
  iapply Hk $$ %_ HO H2

/-- Part 22: sends of the all-gather. -/
theorem part22 (v2 : BitVec 32) {Q : (Σ' (v578 : BitVec 32), BitVec 32) → sProp 𝕄} :
    recs m K ⊢ iprop(owesE c 24 -∗ agGo m c 0 3 -∗ agGo m c 0 4
      -∗ (∀ u, owesE c 26 -∗ ready c 2 0 3 -∗ ready c 2 0 4 -∗ Q u)
      -∗ WP c (app (k0_part22 (F := F)) c v2) Q) := by
  rw [k0_part22_eq_skeleton]
  unfold k0_part22_skel
  simp only [Prog.lift, Prog.bind_op, Prog.bind_ret, Prog.pure_eq_ret]
  iintro #HR HO H1 H3 Hk
  iapply (go_ag m K c 0 3 24 rfl (Fin.ext (k0_dev25_eq c)) (k0_off8_eq c) rfl rfl) $$ HR HO H1
  iintro HO H2
  iapply (go_ag m K c 0 4 25 rfl (Fin.ext (k0_dev26_eq c)) (k0_off8_eq c) rfl rfl) $$ HR HO H3
  iintro HO H4
  iapply (fin c _)
  iapply Hk $$ %_ HO H2 H4

/-- Part 23: sends of the all-gather. -/
theorem part23 (v2 : BitVec 32) (v598 : BitVec 32) {Q : (BitVec 32) → sProp 𝕄} :
    recs m K ⊢ iprop(owesE c 26 -∗ agGo m c 0 5
      -∗ (∀ u, owesE c 27 -∗ ready c 2 0 5 -∗ Q u)
      -∗ WP c (app (k0_part23 (F := F)) c v2 v598) Q) := by
  rw [k0_part23_eq_skeleton]
  unfold k0_part23_skel
  simp only [Prog.lift, Prog.bind_op, Prog.bind_ret, Prog.pure_eq_ret]
  iintro #HR HO H1 Hk
  iapply (go_ag m K c 0 5 26 rfl (Fin.ext (k0_dev27_eq c)) (k0_off8_eq c) rfl rfl) $$ HR HO H1
  iintro HO H2
  iapply (fin c _)
  iapply Hk $$ %_ HO H2

/-- Part 24: the device's own block is loaded, sends of the all-gather. -/
theorem part24 (v2 : BitVec 32) (v226 : BitVec 32) {Q : (FVec F S64x256 .f32) → sProp 𝕄} :
    recs m K ⊢ iprop(owesE c 27 -∗ agGo m c 0 6 -∗ owns (c : Thread nD τ) (pBlk 1 c) fullShare (blk m c 1 c)
      -∗ (owesE c 28 -∗ ready c 2 0 6 -∗ owns (c : Thread nD τ) (pBlk 1 c) fullShare (blk m c 1 c) -∗ Q (wide (blk m c 1 c)))
      -∗ WP c (app (k0_part24 (F := F)) c v2 v226) Q) := by
  rw [k0_part24_eq_skeleton]
  unfold k0_part24_skel
  simp only [Prog.lift, Prog.bind_op, Prog.bind_ret, Prog.pure_eq_ret]
  iintro #HR HO H1 H3 Hk
  iapply (go_ag m K c 0 6 27 rfl (Fin.ext (k0_dev28_eq c)) (k0_off8_eq c) rfl rfl) $$ HR HO H1
  iintro HO H2
  iapply (ld_p c 1 c (k0_off9_eq c)) $$ H3
  iintro H3
  iapply (fin c _)
  rw [pay12_up]
  iapply Hk $$ HO H2 H3

/-- Part 25: landed blocks are waited for and added. -/
theorem part25 (v246 : BitVec 32) (v266 : BitVec 32) (v641 : FVec F S64x256 .f32) {Q : (FVec F S64x256 .f32) → sProp 𝕄} :
    recs m K ⊢ iprop(owesE c 28 -∗ ready c 1 1 0 -∗ ready c 1 1 1
      -∗ (owesE c 28 -∗ done c 1 1 0 -∗ rsIn m c 1 0 -∗ done c 1 1 1 -∗ rsIn m c 1 1 -∗ Q (addf (addf v641 (wide (blk m (bwd c 0) 1 c))) (wide (blk m (bwd c 1) 1 c))))
      -∗ WP c (app (k0_part25 (F := F)) c v246 v266 v641) Q) := by
  rw [k0_part25_eq_skeleton]
  unfold k0_part25_skel
  simp only [Prog.lift, Prog.bind_op, Prog.bind_ret, Prog.pure_eq_ret]
  iintro #HR HO H1 H4 Hk
  iapply (take_r m K c 1 0 28 (by decide) rfl) $$ HR HO H1
  iintro HO H2 H3
  iapply (ld_r c 1 0 rfl) $$ H3
  iintro H3
  iapply (take_r m K c 1 1 28 (by decide) rfl) $$ HR HO H4
  iintro HO H5 H6
  iapply (ld_r c 1 1 rfl) $$ H6
  iintro H6
  iapply (fin c _)
  rw [pay13_up]
  iapply Hk $$ HO H2 H3 H5 H6

/-- Part 26: landed blocks are waited for and added. -/
theorem part26 (v286 : BitVec 32) (v675 : FVec F S64x256 .f32) {Q : (FVec F S64x256 .f32) → sProp 𝕄} :
    recs m K ⊢ iprop(owesE c 28 -∗ ready c 1 1 2
      -∗ (owesE c 28 -∗ done c 1 1 2 -∗ rsIn m c 1 2 -∗ Q (addf v675 (wide (blk m (bwd c 2) 1 c))))
      -∗ WP c (app (k0_part26 (F := F)) c v286 v675) Q) := by
  rw [k0_part26_eq_skeleton]
  unfold k0_part26_skel
  simp only [Prog.lift, Prog.bind_op, Prog.bind_ret, Prog.pure_eq_ret]
  iintro #HR HO H1 Hk
  iapply (take_r m K c 1 2 28 (by decide) rfl) $$ HR HO H1
  iintro HO H2 H3
  iapply (ld_r c 1 2 rfl) $$ H3
  iintro H3
  iapply (fin c _)
  rw [pay14_up]
  iapply Hk $$ HO H2 H3

/-- Part 27: landed blocks are waited for and added. -/
theorem part27 (v306 : BitVec 32) (v326 : BitVec 32) (v692 : FVec F S64x256 .f32) {Q : (FVec F S64x256 .f32) → sProp 𝕄} :
    recs m K ⊢ iprop(owesE c 28 -∗ ready c 1 1 3 -∗ ready c 1 1 4
      -∗ (owesE c 28 -∗ done c 1 1 3 -∗ rsIn m c 1 3 -∗ done c 1 1 4 -∗ rsIn m c 1 4 -∗ Q (addf (addf v692 (wide (blk m (bwd c 3) 1 c))) (wide (blk m (bwd c 4) 1 c))))
      -∗ WP c (app (k0_part27 (F := F)) c v306 v326 v692) Q) := by
  rw [k0_part27_eq_skeleton]
  unfold k0_part27_skel
  simp only [Prog.lift, Prog.bind_op, Prog.bind_ret, Prog.pure_eq_ret]
  iintro #HR HO H1 H4 Hk
  iapply (take_r m K c 1 3 28 (by decide) rfl) $$ HR HO H1
  iintro HO H2 H3
  iapply (ld_r c 1 3 rfl) $$ H3
  iintro H3
  iapply (take_r m K c 1 4 28 (by decide) rfl) $$ HR HO H4
  iintro HO H5 H6
  iapply (ld_r c 1 4 rfl) $$ H6
  iintro H6
  iapply (fin c _)
  rw [pay15_up]
  iapply Hk $$ HO H2 H3 H5 H6

/-- Part 28: landed blocks are waited for and added. -/
theorem part28 (v346 : BitVec 32) (v726 : FVec F S64x256 .f32) {Q : (FVec F S64x256 .f32) → sProp 𝕄} :
    recs m K ⊢ iprop(owesE c 28 -∗ ready c 1 1 5
      -∗ (owesE c 28 -∗ done c 1 1 5 -∗ rsIn m c 1 5 -∗ Q (addf v726 (wide (blk m (bwd c 5) 1 c))))
      -∗ WP c (app (k0_part28 (F := F)) c v346 v726) Q) := by
  rw [k0_part28_eq_skeleton]
  unfold k0_part28_skel
  simp only [Prog.lift, Prog.bind_op, Prog.bind_ret, Prog.pure_eq_ret]
  iintro #HR HO H1 Hk
  iapply (take_r m K c 1 5 28 (by decide) rfl) $$ HR HO H1
  iintro HO H2 H3
  iapply (ld_r c 1 5 rfl) $$ H3
  iintro H3
  iapply (fin c _)
  rw [pay16_up]
  iapply Hk $$ HO H2 H3

/-- Part 29: landed blocks are waited for and added. -/
theorem part29 (v2 : BitVec 32) (v743 : FVec F S64x256 .f32) {Q : (BitVec 32) → sProp 𝕄} :
    recs m K ⊢ iprop(owesE c 28 -∗ ready c 1 1 6 -∗ anyAt c (outSlot 1 c) -∗ anyAt c (agSlot 1 c)
      -∗ (∀ u, owesE c 28 -∗ done c 1 1 6 -∗ rsIn m c 1 6 -∗ owns (c : Thread nD τ) (outSlot 1 c) fullShare (addf v743 (wide (blk m (bwd c 6) 1 c))) -∗ owns (c : Thread nD τ) (agSlot 1 c) fullShare (truncf .bf16 (addf v743 (wide (blk m (bwd c 6) 1 c))) bitsLt_bf16_f32) -∗ Q u)
      -∗ WP c (app (k0_part29 (F := F)) c v2 v743) Q) := by
  rw [k0_part29_eq_skeleton]
  unfold k0_part29_skel
  simp only [Prog.lift, Prog.bind_op, Prog.bind_ret, Prog.pure_eq_ret]
  iintro #HR HO H1 H4 H5 Hk
  iapply (take_r m K c 1 6 28 (by decide) rfl) $$ HR HO H1
  iintro HO H2 H3
  iapply (ld_r c 1 6 rfl) $$ H3
  iintro H3
  iapply (ld_o_any c 1 c (k0_off10_eq c)) $$ H4
  iintro %_ H4
  iapply (st_o c 1 c (k0_off10_eq c) (addf v743 (wide (blk m (bwd c 6) 1 c))) (pay17_up _ _)) $$ H4
  iintro H4
  iapply (ld_g_any c 1 c (k0_off11_eq c)) $$ H5
  iintro %_ H5
  iapply (st_g c 1 c (k0_off11_eq c) (truncf .bf16 (addf v743 (wide (blk m (bwd c 6) 1 c))) bitsLt_bf16_f32) (pay18_up _ _)) $$ H5
  iintro H5
  iapply (fin c _)
  iapply Hk $$ %_ HO H2 H3 H4 H5

/-- Part 30: sends of the all-gather. -/
theorem part30 (v2 : BitVec 32) {Q : (Σ' (v790 : BitVec 32), BitVec 32) → sProp 𝕄} :
    recs m K ⊢ iprop(owesE c 28 -∗ agGo m c 1 0 -∗ agGo m c 1 1
      -∗ (∀ u, owesE c 30 -∗ ready c 2 1 0 -∗ ready c 2 1 1 -∗ Q u)
      -∗ WP c (app (k0_part30 (F := F)) c v2) Q) := by
  rw [k0_part30_eq_skeleton]
  unfold k0_part30_skel
  simp only [Prog.lift, Prog.bind_op, Prog.bind_ret, Prog.pure_eq_ret]
  iintro #HR HO H1 H3 Hk
  iapply (go_ag m K c 1 0 28 rfl (Fin.ext (k0_dev29_eq c)) (k0_off12_eq c) rfl rfl) $$ HR HO H1
  iintro HO H2
  iapply (go_ag m K c 1 1 29 rfl (Fin.ext (k0_dev30_eq c)) (k0_off12_eq c) rfl rfl) $$ HR HO H3
  iintro HO H4
  iapply (fin c _)
  iapply Hk $$ %_ HO H2 H4

/-- Part 31: sends of the all-gather. -/
theorem part31 (v2 : BitVec 32) (v810 : BitVec 32) {Q : (BitVec 32) → sProp 𝕄} :
    recs m K ⊢ iprop(owesE c 30 -∗ agGo m c 1 2
      -∗ (∀ u, owesE c 31 -∗ ready c 2 1 2 -∗ Q u)
      -∗ WP c (app (k0_part31 (F := F)) c v2 v810) Q) := by
  rw [k0_part31_eq_skeleton]
  unfold k0_part31_skel
  simp only [Prog.lift, Prog.bind_op, Prog.bind_ret, Prog.pure_eq_ret]
  iintro #HR HO H1 Hk
  iapply (go_ag m K c 1 2 30 rfl (Fin.ext (k0_dev31_eq c)) (k0_off12_eq c) rfl rfl) $$ HR HO H1
  iintro HO H2
  iapply (fin c _)
  iapply Hk $$ %_ HO H2

/-- Part 32: sends of the all-gather. -/
theorem part32 (v2 : BitVec 32) {Q : (Σ' (v850 : BitVec 32), BitVec 32) → sProp 𝕄} :
    recs m K ⊢ iprop(owesE c 31 -∗ agGo m c 1 3 -∗ agGo m c 1 4
      -∗ (∀ u, owesE c 33 -∗ ready c 2 1 3 -∗ ready c 2 1 4 -∗ Q u)
      -∗ WP c (app (k0_part32 (F := F)) c v2) Q) := by
  rw [k0_part32_eq_skeleton]
  unfold k0_part32_skel
  simp only [Prog.lift, Prog.bind_op, Prog.bind_ret, Prog.pure_eq_ret]
  iintro #HR HO H1 H3 Hk
  iapply (go_ag m K c 1 3 31 rfl (Fin.ext (k0_dev32_eq c)) (k0_off12_eq c) rfl rfl) $$ HR HO H1
  iintro HO H2
  iapply (go_ag m K c 1 4 32 rfl (Fin.ext (k0_dev33_eq c)) (k0_off12_eq c) rfl rfl) $$ HR HO H3
  iintro HO H4
  iapply (fin c _)
  iapply Hk $$ %_ HO H2 H4

/-- Part 33: sends of the all-gather. -/
theorem part33 (v2 : BitVec 32) (c6_i32_966 : BitVec 32) {Q : (Σ' (v870 : BitVec 32), BitVec 32) → sProp 𝕄} :
    recs m K ⊢ iprop(owesE c 33 -∗ agGo m c 1 5
      -∗ (∀ u, owesE c 34 -∗ ready c 2 1 5 -∗ Q u)
      -∗ WP c (app (k0_part33 (F := F)) c v2 c6_i32_966) Q) := by
  rw [k0_part33_eq_skeleton]
  unfold k0_part33_skel
  simp only [Prog.lift, Prog.bind_op, Prog.bind_ret, Prog.pure_eq_ret]
  iintro #HR HO H1 Hk
  iapply (go_ag m K c 1 5 33 rfl (Fin.ext (k0_dev34_eq c)) (k0_off12_eq c) rfl rfl) $$ HR HO H1
  iintro HO H2
  iapply (fin c _)
  iapply Hk $$ %_ HO H2

/-- Part 34: sends of the all-gather. -/
theorem part34 (v2 : BitVec 32) (v498 : BitVec 32) {Q : (BitVec 32) → sProp 𝕄} :
    recs m K ⊢ iprop(owesE c 34 -∗ agGo m c 1 6
      -∗ (∀ u, owesE c 35 -∗ ready c 2 1 6 -∗ Q u)
      -∗ WP c (app (k0_part34 (F := F)) c v2 v498) Q) := by
  rw [k0_part34_eq_skeleton]
  unfold k0_part34_skel
  simp only [Prog.lift, Prog.bind_op, Prog.bind_ret, Prog.pure_eq_ret]
  iintro #HR HO H1 Hk
  iapply (go_ag m K c 1 6 34 rfl (Fin.ext (k0_dev35_eq c)) (k0_off12_eq c) rfl rfl) $$ HR HO H1
  iintro HO H2
  iapply (fin c _)
  iapply Hk $$ %_ HO H2

end Cert.Mesh
-- ==== Proof.PartsC.lean ====
/-
The kernel's parts that store the other devices' sums.
-/

module

public import proofs.«01_k».proof.Proof.Parts

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Part 35: sums of other devices are waited for and stored. -/
theorem part35 (v2 : BitVec 32) (v518 : BitVec 32) (v910 : BitVec 32) {Q : (Σ' (v933 : BitVec 32), FVec F S64x256 .bf16) → sProp 𝕄} :
    recs m K ⊢ iprop(owesE c 35 -∗ ready c 3 0 0 -∗ anyAt c (outSlot 0 (bwd c 0)) -∗ ready c 3 0 1
      -∗ (∀ u, owesE c 35 -∗ done c 3 0 0 -∗ agIn m c 0 0 -∗ owns (c : Thread nD τ) (outSlot 0 (bwd c 0)) fullShare (wide (agV m (bwd c 0) 0)) -∗ done c 3 0 1 -∗ agIn m c 0 1 -∗ Q ⟨u, (agV m (bwd c 1) 0)⟩)
      -∗ WP c (app (k0_part35 (F := F)) c v2 v518 v910) Q) := by
  rw [k0_part35_eq_skeleton]
  unfold k0_part35_skel
  simp only [Prog.lift, Prog.bind_op, Prog.bind_ret, Prog.pure_eq_ret]
  iintro #HR HO H1 H4 H5 Hk
  iapply (take_g m K c 0 0 35 (by decide) rfl) $$ HR HO H1
  iintro HO H2 H3
  iapply (ld_g c 0 (bwd c 0) (off13b c 0)) $$ H3
  iintro H3
  iapply (ld_o_any c 0 (bwd c 0) (off14b c 0)) $$ H4
  iintro %_ H4
  iapply (st_o c 0 (bwd c 0) (off14b c 0) (wide (agV m (bwd c 0) 0)) (pay19_up _)) $$ H4
  iintro H4
  iapply (take_g m K c 0 1 35 (by decide) rfl) $$ HR HO H5
  iintro HO H6 H7
  iapply (ld_g c 0 (bwd c 1) (off13b c 1)) $$ H7
  iintro H7
  iapply (fin c _)
  rw [pay20_up]
  iapply Hk $$ %_ HO H2 H3 H4 H6 H7

/-- Part 36: sums of other devices are waited for and stored. -/
theorem part36 (v2 : BitVec 32) (v538 : BitVec 32) (v933 : BitVec 32) (v950 : FVec F S64x256 .bf16) {Q : (BitVec 32) → sProp 𝕄} :
    recs m K ⊢ iprop(owesE c 35 -∗ anyAt c (outSlot 0 (bwd c 1)) -∗ ready c 3 0 2 -∗ anyAt c (outSlot 0 (bwd c 2))
      -∗ (∀ u, owesE c 35 -∗ owns (c : Thread nD τ) (outSlot 0 (bwd c 1)) fullShare (wide v950) -∗ done c 3 0 2 -∗ agIn m c 0 2 -∗ owns (c : Thread nD τ) (outSlot 0 (bwd c 2)) fullShare (wide (agV m (bwd c 2) 0)) -∗ Q u)
      -∗ WP c (app (k0_part36 (F := F)) c v2 v538 v933 v950) Q) := by
  rw [k0_part36_eq_skeleton]
  unfold k0_part36_skel
  simp only [Prog.lift, Prog.bind_op, Prog.bind_ret, Prog.pure_eq_ret]
  iintro #HR HO H1 H2 H5 Hk
  iapply (ld_o_any c 0 (bwd c 1) (off14b c 1)) $$ H1
  iintro %_ H1
  iapply (st_o c 0 (bwd c 1) (off14b c 1) (wide v950) rfl) $$ H1
  iintro H1
  iapply (take_g m K c 0 2 35 (by decide) rfl) $$ HR HO H2
  iintro HO H3 H4
  iapply (ld_g c 0 (bwd c 2) (off13b c 2)) $$ H4
  iintro H4
  iapply (ld_o_any c 0 (bwd c 2) (off14b c 2)) $$ H5
  iintro %_ H5
  iapply (st_o c 0 (bwd c 2) (off14b c 2) (wide (agV m (bwd c 2) 0)) (pay22_up _)) $$ H5
  iintro H5
  iapply (fin c _)
  iapply Hk $$ %_ HO H1 H3 H4 H5

/-- Part 37: sums of other devices are waited for and stored. -/
theorem part37 (v2 : BitVec 32) (v558 : BitVec 32) (v978 : BitVec 32) {Q : (Σ' (v1002 : BitVec 32), BitVec 32) → sProp 𝕄} :
    recs m K ⊢ iprop(owesE c 35 -∗ ready c 3 0 3 -∗ anyAt c (outSlot 0 (bwd c 3))
      -∗ (∀ u, owesE c 35 -∗ done c 3 0 3 -∗ agIn m c 0 3 -∗ owns (c : Thread nD τ) (outSlot 0 (bwd c 3)) fullShare (wide (agV m (bwd c 3) 0)) -∗ Q u)
      -∗ WP c (app (k0_part37 (F := F)) c v2 v558 v978) Q) := by
  rw [k0_part37_eq_skeleton]
  unfold k0_part37_skel
  simp only [Prog.lift, Prog.bind_op, Prog.bind_ret, Prog.pure_eq_ret]
  iintro #HR HO H1 H4 Hk
  iapply (take_g m K c 0 3 35 (by decide) rfl) $$ HR HO H1
  iintro HO H2 H3
  iapply (ld_g c 0 (bwd c 3) (off13b c 3)) $$ H3
  iintro H3
  iapply (ld_o_any c 0 (bwd c 3) (off14b c 3)) $$ H4
  iintro %_ H4
  iapply (st_o c 0 (bwd c 3) (off14b c 3) (wide (agV m (bwd c 3) 0)) (pay23_up _)) $$ H4
  iintro H4
  iapply (fin c _)
  iapply Hk $$ %_ HO H2 H3 H4

/-- Part 38: sums of other devices are waited for and stored. -/
theorem part38 (v2 : BitVec 32) (v578 : BitVec 32) (v598 : BitVec 32) (v1002 : BitVec 32) (c1_i32_1122 : BitVec 32) {Q : (BitVec 32) → sProp 𝕄} :
    recs m K ⊢ iprop(owesE c 35 -∗ ready c 3 0 4 -∗ anyAt c (outSlot 0 (bwd c 4))
      -∗ (∀ u, owesE c 35 -∗ done c 3 0 4 -∗ agIn m c 0 4 -∗ owns (c : Thread nD τ) (outSlot 0 (bwd c 4)) fullShare (wide (agV m (bwd c 4) 0)) -∗ Q u)
      -∗ WP c (app (k0_part38 (F := F)) c v2 v578 v598 v1002 c1_i32_1122) Q) := by
  rw [k0_part38_eq_skeleton]
  unfold k0_part38_skel
  simp only [Prog.lift, Prog.bind_op, Prog.bind_ret, Prog.pure_eq_ret]
  iintro #HR HO H1 H4 Hk
  iapply (take_g m K c 0 4 35 (by decide) rfl) $$ HR HO H1
  iintro HO H2 H3
  iapply (ld_g c 0 (bwd c 4) (off13b c 4)) $$ H3
  iintro H3
  iapply (ld_o_any c 0 (bwd c 4) (off14b c 4)) $$ H4
  iintro %_ H4
  iapply (st_o c 0 (bwd c 4) (off14b c 4) (wide (agV m (bwd c 4) 0)) (pay24_up _)) $$ H4
  iintro H4
  iapply (fin c _)
  iapply Hk $$ %_ HO H2 H3 H4

/-- Part 39: sums of other devices are waited for and stored. -/
theorem part39 (v2 : BitVec 32) (v618 : BitVec 32) (v1025 : BitVec 32) {Q : (BitVec 32) → sProp 𝕄} :
    recs m K ⊢ iprop(owesE c 35 -∗ ready c 3 0 5 -∗ anyAt c (outSlot 0 (bwd c 5))
      -∗ (∀ u, owesE c 35 -∗ done c 3 0 5 -∗ agIn m c 0 5 -∗ owns (c : Thread nD τ) (outSlot 0 (bwd c 5)) fullShare (wide (agV m (bwd c 5) 0)) -∗ Q u)
      -∗ WP c (app (k0_part39 (F := F)) c v2 v618 v1025) Q) := by
  rw [k0_part39_eq_skeleton]
  unfold k0_part39_skel
  simp only [Prog.lift, Prog.bind_op, Prog.bind_ret, Prog.pure_eq_ret]
  iintro #HR HO H1 H4 Hk
  iapply (take_g m K c 0 5 35 (by decide) rfl) $$ HR HO H1
  iintro HO H2 H3
  iapply (ld_g c 0 (bwd c 5) (off13b c 5)) $$ H3
  iintro H3
  iapply (ld_o_any c 0 (bwd c 5) (off14b c 5)) $$ H4
  iintro %_ H4
  iapply (st_o c 0 (bwd c 5) (off14b c 5) (wide (agV m (bwd c 5) 0)) (pay25_up _)) $$ H4
  iintro H4
  iapply (fin c _)
  iapply Hk $$ %_ HO H2 H3 H4

/-- Part 40: sums of other devices are waited for and stored. -/
theorem part40 (v2 : BitVec 32) (v770 : BitVec 32) (v1048 : BitVec 32) {Q : (BitVec 32) → sProp 𝕄} :
    recs m K ⊢ iprop(owesE c 35 -∗ ready c 3 0 6 -∗ anyAt c (outSlot 0 (bwd c 6)) -∗ ready c 3 1 0
      -∗ (∀ u, owesE c 35 -∗ done c 3 0 6 -∗ agIn m c 0 6 -∗ owns (c : Thread nD τ) (outSlot 0 (bwd c 6)) fullShare (wide (agV m (bwd c 6) 0)) -∗ done c 3 1 0 -∗ agIn m c 1 0 -∗ Q u)
      -∗ WP c (app (k0_part40 (F := F)) c v2 v770 v1048) Q) := by
  rw [k0_part40_eq_skeleton]
  unfold k0_part40_skel
  simp only [Prog.lift, Prog.bind_op, Prog.bind_ret, Prog.pure_eq_ret]
  iintro #HR HO H1 H4 H5 Hk
  iapply (take_g m K c 0 6 35 (by decide) rfl) $$ HR HO H1
  iintro HO H2 H3
  iapply (ld_g c 0 (bwd c 6) (off13b c 6)) $$ H3
  iintro H3
  iapply (ld_o_any c 0 (bwd c 6) (off14b c 6)) $$ H4
  iintro %_ H4
  iapply (st_o c 0 (bwd c 6) (off14b c 6) (wide (agV m (bwd c 6) 0)) (pay26_up _)) $$ H4
  iintro H4
  iapply (take_g m K c 1 0 35 (by decide) rfl) $$ HR HO H5
  iintro HO H6 H7
  iapply (fin c _)
  iapply Hk $$ %_ HO H2 H3 H4 H6 H7

/-- Part 41: sums of other devices are waited for and stored. -/
theorem part41 (v2 : BitVec 32) (v790 : BitVec 32) (v1071 : BitVec 32) {Q : (Σ' (v1112 : FVec F S64x256 .f32), BitVec 32) → sProp 𝕄} :
    recs m K ⊢ iprop(owesE c 35 -∗ agIn m c 1 0 -∗ anyAt c (outSlot 1 (bwd c 0)) -∗ ready c 3 1 1
      -∗ (∀ u, owesE c 35 -∗ agIn m c 1 0 -∗ owns (c : Thread nD τ) (outSlot 1 (bwd c 0)) fullShare (wide (agV m (bwd c 0) 1)) -∗ done c 3 1 1 -∗ agIn m c 1 1 -∗ Q ⟨wide (agV m (bwd c 1) 1), u⟩)
      -∗ WP c (app (k0_part41 (F := F)) c v2 v790 v1071) Q) := by
  rw [k0_part41_eq_skeleton]
  unfold k0_part41_skel
  simp only [Prog.lift, Prog.bind_op, Prog.bind_ret, Prog.pure_eq_ret]
  iintro #HR HO H1 H2 H3 Hk
  iapply (ld_g c 1 (bwd c 0) (off15b c 0)) $$ H1
  iintro H1
  iapply (ld_o_any c 1 (bwd c 0) (off16b c 0)) $$ H2
  iintro %_ H2
  iapply (st_o c 1 (bwd c 0) (off16b c 0) (wide (agV m (bwd c 0) 1)) (pay27_up _)) $$ H2
  iintro H2
  iapply (take_g m K c 1 1 35 (by decide) rfl) $$ HR HO H3
  iintro HO H4 H5
  iapply (ld_g c 1 (bwd c 1) (off15b c 1)) $$ H5
  iintro H5
  iapply (fin c _)
  rw [pay28_up]
  iapply Hk $$ %_ HO H1 H2 H4 H5

/-- Part 42: sums of other devices are waited for and stored. -/
theorem part42 (v2 : BitVec 32) (v810 : BitVec 32) (v1112 : FVec F S64x256 .f32) (v1113 : BitVec 32) {Q : (BitVec 32) → sProp 𝕄} :
    recs m K ⊢ iprop(owesE c 35 -∗ anyAt c (outSlot 1 (bwd c 1)) -∗ ready c 3 1 2 -∗ anyAt c (outSlot 1 (bwd c 2))
      -∗ (∀ u, owesE c 35 -∗ owns (c : Thread nD τ) (outSlot 1 (bwd c 1)) fullShare (v1112) -∗ done c 3 1 2 -∗ agIn m c 1 2 -∗ owns (c : Thread nD τ) (outSlot 1 (bwd c 2)) fullShare (wide (agV m (bwd c 2) 1)) -∗ Q u)
      -∗ WP c (app (k0_part42 (F := F)) c v2 v810 v1112 v1113) Q) := by
  rw [k0_part42_eq_skeleton]
  unfold k0_part42_skel
  simp only [Prog.lift, Prog.bind_op, Prog.bind_ret, Prog.pure_eq_ret]
  iintro #HR HO H1 H2 H5 Hk
  iapply (ld_o_any c 1 (bwd c 1) (off16b c 1)) $$ H1
  iintro %_ H1
  iapply (st_o c 1 (bwd c 1) (off16b c 1) (v1112) rfl) $$ H1
  iintro H1
  iapply (take_g m K c 1 2 35 (by decide) rfl) $$ HR HO H2
  iintro HO H3 H4
  iapply (ld_g c 1 (bwd c 2) (off15b c 2)) $$ H4
  iintro H4
  iapply (ld_o_any c 1 (bwd c 2) (off16b c 2)) $$ H5
  iintro %_ H5
  iapply (st_o c 1 (bwd c 2) (off16b c 2) (wide (agV m (bwd c 2) 1)) (pay29_up _)) $$ H5
  iintro H5
  iapply (fin c _)
  iapply Hk $$ %_ HO H1 H3 H4 H5

/-- Part 43: sums of other devices are waited for and stored. -/
theorem part43 (v2 : BitVec 32) (v830 : BitVec 32) (v850 : BitVec 32) (v1140 : BitVec 32) {Q : (BitVec 32) → sProp 𝕄} :
    recs m K ⊢ iprop(owesE c 35 -∗ ready c 3 1 3 -∗ anyAt c (outSlot 1 (bwd c 3))
      -∗ (∀ u, owesE c 35 -∗ done c 3 1 3 -∗ agIn m c 1 3 -∗ owns (c : Thread nD τ) (outSlot 1 (bwd c 3)) fullShare (wide (agV m (bwd c 3) 1)) -∗ Q u)
      -∗ WP c (app (k0_part43 (F := F)) c v2 v830 v850 v1140) Q) := by
  rw [k0_part43_eq_skeleton]
  unfold k0_part43_skel
  simp only [Prog.lift, Prog.bind_op, Prog.bind_ret, Prog.pure_eq_ret]
  iintro #HR HO H1 H4 Hk
  iapply (take_g m K c 1 3 35 (by decide) rfl) $$ HR HO H1
  iintro HO H2 H3
  iapply (ld_g c 1 (bwd c 3) (off15b c 3)) $$ H3
  iintro H3
  iapply (ld_o_any c 1 (bwd c 3) (off16b c 3)) $$ H4
  iintro %_ H4
  iapply (st_o c 1 (bwd c 3) (off16b c 3) (wide (agV m (bwd c 3) 1)) (pay30_up _)) $$ H4
  iintro H4
  iapply (fin c _)
  iapply Hk $$ %_ HO H2 H3 H4

/-- Part 44: sums of other devices are waited for and stored. -/
theorem part44 (v2 : BitVec 32) (v870 : BitVec 32) (v1163 : BitVec 32) {Q : (BitVec 32) → sProp 𝕄} :
    recs m K ⊢ iprop(owesE c 35 -∗ ready c 3 1 4 -∗ anyAt c (outSlot 1 (bwd c 4))
      -∗ (∀ u, owesE c 35 -∗ done c 3 1 4 -∗ agIn m c 1 4 -∗ owns (c : Thread nD τ) (outSlot 1 (bwd c 4)) fullShare (wide (agV m (bwd c 4) 1)) -∗ Q u)
      -∗ WP c (app (k0_part44 (F := F)) c v2 v870 v1163) Q) := by
  rw [k0_part44_eq_skeleton]
  unfold k0_part44_skel
  simp only [Prog.lift, Prog.bind_op, Prog.bind_ret, Prog.pure_eq_ret]
  iintro #HR HO H1 H4 Hk
  iapply (take_g m K c 1 4 35 (by decide) rfl) $$ HR HO H1
  iintro HO H2 H3
  iapply (ld_g c 1 (bwd c 4) (off15b c 4)) $$ H3
  iintro H3
  iapply (ld_o_any c 1 (bwd c 4) (off16b c 4)) $$ H4
  iintro %_ H4
  iapply (st_o c 1 (bwd c 4) (off16b c 4) (wide (agV m (bwd c 4) 1)) (pay31_up _)) $$ H4
  iintro H4
  iapply (fin c _)
  iapply Hk $$ %_ HO H2 H3 H4

/-- Part 45: sums of other devices are waited for and stored. -/
theorem part45 (v2 : BitVec 32) (v890 : BitVec 32) (v1186 : BitVec 32) {Q : (BitVec 32) → sProp 𝕄} :
    recs m K ⊢ iprop(owesE c 35 -∗ ready c 3 1 5 -∗ anyAt c (outSlot 1 (bwd c 5))
      -∗ (∀ u, owesE c 35 -∗ done c 3 1 5 -∗ agIn m c 1 5 -∗ owns (c : Thread nD τ) (outSlot 1 (bwd c 5)) fullShare (wide (agV m (bwd c 5) 1)) -∗ Q u)
      -∗ WP c (app (k0_part45 (F := F)) c v2 v890 v1186) Q) := by
  rw [k0_part45_eq_skeleton]
  unfold k0_part45_skel
  simp only [Prog.lift, Prog.bind_op, Prog.bind_ret, Prog.pure_eq_ret]
  iintro #HR HO H1 H4 Hk
  iapply (take_g m K c 1 5 35 (by decide) rfl) $$ HR HO H1
  iintro HO H2 H3
  iapply (ld_g c 1 (bwd c 5) (off15b c 5)) $$ H3
  iintro H3
  iapply (ld_o_any c 1 (bwd c 5) (off16b c 5)) $$ H4
  iintro %_ H4
  iapply (st_o c 1 (bwd c 5) (off16b c 5) (wide (agV m (bwd c 5) 1)) (pay32_up _)) $$ H4
  iintro H4
  iapply (fin c _)
  iapply Hk $$ %_ HO H2 H3 H4

end Cert.Mesh
-- ==== Proof.PartsD.lean ====
/-
The kernel's parts that wait for the messages sent.
-/

module

public import proofs.«01_k».proof.Proof.Parts

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Part 46: sums of other devices are waited for and stored, sent messages are waited for. -/
theorem part46 (v1209 : BitVec 32) {Q : (PUnit) → sProp 𝕄} :
    recs m K ⊢ iprop(owesE c 35 -∗ ready c 3 1 6 -∗ anyAt c (outSlot 1 (bwd c 6)) -∗ ready c 0 0 0
      -∗ (owesE c 35 -∗ done c 3 1 6 -∗ agIn m c 1 6 -∗ owns (c : Thread nD τ) (outSlot 1 (bwd c 6)) fullShare (wide (agV m (bwd c 6) 1)) -∗ done c 0 0 0 -∗ rsBack m c 0 0 -∗ Q ⟨⟩)
      -∗ WP c (app (k0_part46 (F := F)) c v1209) Q) := by
  rw [k0_part46_eq_skeleton]
  unfold k0_part46_skel
  simp only [Prog.lift, Prog.bind_op, Prog.bind_ret, Prog.pure_eq_ret]
  iintro #HR HO H1 H4 H5 Hk
  iapply (take_g m K c 1 6 35 (by decide) rfl) $$ HR HO H1
  iintro HO H2 H3
  iapply (ld_g c 1 (bwd c 6) (off15b c 6)) $$ H3
  iintro H3
  iapply (ld_o_any c 1 (bwd c 6) (off16b c 6)) $$ H4
  iintro %_ H4
  iapply (st_o c 1 (bwd c 6) (off16b c 6) (wide (agV m (bwd c 6) 1)) (pay33_up _)) $$ H4
  iintro H4
  iapply (take_p m K c 0 0 35 rfl) $$ HR HO H5
  iintro HO H6 H7
  iapply (fin c _)
  iapply Hk $$ HO H2 H3 H4 H6 H7

/-- Part 47: sent messages are waited for. -/
theorem part47 {Q : (PUnit) → sProp 𝕄} :
    recs m K ⊢ iprop(owesE c 35 -∗ ready c 2 0 0 -∗ ready c 0 0 1
      -∗ (owesE c 35 -∗ done c 2 0 0 -∗ agBack m c 0 0 -∗ done c 0 0 1 -∗ rsBack m c 0 1 -∗ Q ⟨⟩)
      -∗ WP c (app (k0_part47 (F := F)) c) Q) := by
  rw [k0_part47_eq_skeleton]
  unfold k0_part47_skel
  simp only [Prog.lift, Prog.bind_op, Prog.bind_ret, Prog.pure_eq_ret]
  iintro #HR HO H1 H4 Hk
  iapply (take_s m K c 0 0 35 rfl) $$ HR HO H1
  iintro HO H2 H3
  iapply (take_p m K c 0 1 35 rfl) $$ HR HO H4
  iintro HO H5 H6
  iapply (fin c _)
  iapply Hk $$ HO H2 H3 H5 H6

/-- Part 48: sent messages are waited for. -/
theorem part48 {Q : (PUnit) → sProp 𝕄} :
    recs m K ⊢ iprop(owesE c 35 -∗ ready c 2 0 1 -∗ ready c 0 0 2
      -∗ (owesE c 35 -∗ done c 2 0 1 -∗ agBack m c 0 1 -∗ done c 0 0 2 -∗ rsBack m c 0 2 -∗ Q ⟨⟩)
      -∗ WP c (app (k0_part48 (F := F)) c) Q) := by
  rw [k0_part48_eq_skeleton]
  unfold k0_part48_skel
  simp only [Prog.lift, Prog.bind_op, Prog.bind_ret, Prog.pure_eq_ret]
  iintro #HR HO H1 H4 Hk
  iapply (take_s m K c 0 1 35 rfl) $$ HR HO H1
  iintro HO H2 H3
  iapply (take_p m K c 0 2 35 rfl) $$ HR HO H4
  iintro HO H5 H6
  iapply (fin c _)
  iapply Hk $$ HO H2 H3 H5 H6

/-- Part 49: sent messages are waited for. -/
theorem part49 {Q : (PUnit) → sProp 𝕄} :
    recs m K ⊢ iprop(owesE c 35 -∗ ready c 2 0 2 -∗ ready c 0 0 3
      -∗ (owesE c 35 -∗ done c 2 0 2 -∗ agBack m c 0 2 -∗ done c 0 0 3 -∗ rsBack m c 0 3 -∗ Q ⟨⟩)
      -∗ WP c (app (k0_part49 (F := F)) c) Q) := by
  rw [k0_part49_eq_skeleton]
  unfold k0_part49_skel
  simp only [Prog.lift, Prog.bind_op, Prog.bind_ret, Prog.pure_eq_ret]
  iintro #HR HO H1 H4 Hk
  iapply (take_s m K c 0 2 35 rfl) $$ HR HO H1
  iintro HO H2 H3
  iapply (take_p m K c 0 3 35 rfl) $$ HR HO H4
  iintro HO H5 H6
  iapply (fin c _)
  iapply Hk $$ HO H2 H3 H5 H6

/-- Part 50: sent messages are waited for. -/
theorem part50 {Q : (PUnit) → sProp 𝕄} :
    recs m K ⊢ iprop(owesE c 35 -∗ ready c 2 0 3 -∗ ready c 0 0 4
      -∗ (owesE c 35 -∗ done c 2 0 3 -∗ agBack m c 0 3 -∗ done c 0 0 4 -∗ rsBack m c 0 4 -∗ Q ⟨⟩)
      -∗ WP c (app (k0_part50 (F := F)) c) Q) := by
  rw [k0_part50_eq_skeleton]
  unfold k0_part50_skel
  simp only [Prog.lift, Prog.bind_op, Prog.bind_ret, Prog.pure_eq_ret]
  iintro #HR HO H1 H4 Hk
  iapply (take_s m K c 0 3 35 rfl) $$ HR HO H1
  iintro HO H2 H3
  iapply (take_p m K c 0 4 35 rfl) $$ HR HO H4
  iintro HO H5 H6
  iapply (fin c _)
  iapply Hk $$ HO H2 H3 H5 H6

/-- Part 51: sent messages are waited for. -/
theorem part51 {Q : (PUnit) → sProp 𝕄} :
    recs m K ⊢ iprop(owesE c 35 -∗ ready c 2 0 4 -∗ ready c 0 0 5
      -∗ (owesE c 35 -∗ done c 2 0 4 -∗ agBack m c 0 4 -∗ done c 0 0 5 -∗ rsBack m c 0 5 -∗ Q ⟨⟩)
      -∗ WP c (app (k0_part51 (F := F)) c) Q) := by
  rw [k0_part51_eq_skeleton]
  unfold k0_part51_skel
  simp only [Prog.lift, Prog.bind_op, Prog.bind_ret, Prog.pure_eq_ret]
  iintro #HR HO H1 H4 Hk
  iapply (take_s m K c 0 4 35 rfl) $$ HR HO H1
  iintro HO H2 H3
  iapply (take_p m K c 0 5 35 rfl) $$ HR HO H4
  iintro HO H5 H6
  iapply (fin c _)
  iapply Hk $$ HO H2 H3 H5 H6

/-- Part 52: sent messages are waited for. -/
theorem part52 {Q : (PUnit) → sProp 𝕄} :
    recs m K ⊢ iprop(owesE c 35 -∗ ready c 2 0 5 -∗ ready c 0 0 6
      -∗ (owesE c 35 -∗ done c 2 0 5 -∗ agBack m c 0 5 -∗ done c 0 0 6 -∗ rsBack m c 0 6 -∗ Q ⟨⟩)
      -∗ WP c (app (k0_part52 (F := F)) c) Q) := by
  rw [k0_part52_eq_skeleton]
  unfold k0_part52_skel
  simp only [Prog.lift, Prog.bind_op, Prog.bind_ret, Prog.pure_eq_ret]
  iintro #HR HO H1 H4 Hk
  iapply (take_s m K c 0 5 35 rfl) $$ HR HO H1
  iintro HO H2 H3
  iapply (take_p m K c 0 6 35 rfl) $$ HR HO H4
  iintro HO H5 H6
  iapply (fin c _)
  iapply Hk $$ HO H2 H3 H5 H6

/-- Part 53: sent messages are waited for. -/
theorem part53 {Q : (PUnit) → sProp 𝕄} :
    recs m K ⊢ iprop(owesE c 35 -∗ ready c 2 0 6 -∗ ready c 0 1 0
      -∗ (owesE c 35 -∗ done c 2 0 6 -∗ agBack m c 0 6 -∗ done c 0 1 0 -∗ rsBack m c 1 0 -∗ Q ⟨⟩)
      -∗ WP c (app (k0_part53 (F := F)) c) Q) := by
  rw [k0_part53_eq_skeleton]
  unfold k0_part53_skel
  simp only [Prog.lift, Prog.bind_op, Prog.bind_ret, Prog.pure_eq_ret]
  iintro #HR HO H1 H4 Hk
  iapply (take_s m K c 0 6 35 rfl) $$ HR HO H1
  iintro HO H2 H3
  iapply (take_p m K c 1 0 35 rfl) $$ HR HO H4
  iintro HO H5 H6
  iapply (fin c _)
  iapply Hk $$ HO H2 H3 H5 H6

/-- Part 54: sent messages are waited for. -/
theorem part54 {Q : (PUnit) → sProp 𝕄} :
    recs m K ⊢ iprop(owesE c 35 -∗ ready c 2 1 0 -∗ ready c 0 1 1
      -∗ (owesE c 35 -∗ done c 2 1 0 -∗ agBack m c 1 0 -∗ done c 0 1 1 -∗ rsBack m c 1 1 -∗ Q ⟨⟩)
      -∗ WP c (app (k0_part54 (F := F)) c) Q) := by
  rw [k0_part54_eq_skeleton]
  unfold k0_part54_skel
  simp only [Prog.lift, Prog.bind_op, Prog.bind_ret, Prog.pure_eq_ret]
  iintro #HR HO H1 H4 Hk
  iapply (take_s m K c 1 0 35 rfl) $$ HR HO H1
  iintro HO H2 H3
  iapply (take_p m K c 1 1 35 rfl) $$ HR HO H4
  iintro HO H5 H6
  iapply (fin c _)
  iapply Hk $$ HO H2 H3 H5 H6

/-- Part 55: sent messages are waited for. -/
theorem part55 {Q : (PUnit) → sProp 𝕄} :
    recs m K ⊢ iprop(owesE c 35 -∗ ready c 2 1 1 -∗ ready c 0 1 2
      -∗ (owesE c 35 -∗ done c 2 1 1 -∗ agBack m c 1 1 -∗ done c 0 1 2 -∗ rsBack m c 1 2 -∗ Q ⟨⟩)
      -∗ WP c (app (k0_part55 (F := F)) c) Q) := by
  rw [k0_part55_eq_skeleton]
  unfold k0_part55_skel
  simp only [Prog.lift, Prog.bind_op, Prog.bind_ret, Prog.pure_eq_ret]
  iintro #HR HO H1 H4 Hk
  iapply (take_s m K c 1 1 35 rfl) $$ HR HO H1
  iintro HO H2 H3
  iapply (take_p m K c 1 2 35 rfl) $$ HR HO H4
  iintro HO H5 H6
  iapply (fin c _)
  iapply Hk $$ HO H2 H3 H5 H6

/-- Part 56: sent messages are waited for. -/
theorem part56 {Q : (PUnit) → sProp 𝕄} :
    recs m K ⊢ iprop(owesE c 35 -∗ ready c 2 1 2 -∗ ready c 0 1 3
      -∗ (owesE c 35 -∗ done c 2 1 2 -∗ agBack m c 1 2 -∗ done c 0 1 3 -∗ rsBack m c 1 3 -∗ Q ⟨⟩)
      -∗ WP c (app (k0_part56 (F := F)) c) Q) := by
  rw [k0_part56_eq_skeleton]
  unfold k0_part56_skel
  simp only [Prog.lift, Prog.bind_op, Prog.bind_ret, Prog.pure_eq_ret]
  iintro #HR HO H1 H4 Hk
  iapply (take_s m K c 1 2 35 rfl) $$ HR HO H1
  iintro HO H2 H3
  iapply (take_p m K c 1 3 35 rfl) $$ HR HO H4
  iintro HO H5 H6
  iapply (fin c _)
  iapply Hk $$ HO H2 H3 H5 H6

/-- Part 57: sent messages are waited for. -/
theorem part57 {Q : (PUnit) → sProp 𝕄} :
    recs m K ⊢ iprop(owesE c 35 -∗ ready c 2 1 3 -∗ ready c 0 1 4
      -∗ (owesE c 35 -∗ done c 2 1 3 -∗ agBack m c 1 3 -∗ done c 0 1 4 -∗ rsBack m c 1 4 -∗ Q ⟨⟩)
      -∗ WP c (app (k0_part57 (F := F)) c) Q) := by
  rw [k0_part57_eq_skeleton]
  unfold k0_part57_skel
  simp only [Prog.lift, Prog.bind_op, Prog.bind_ret, Prog.pure_eq_ret]
  iintro #HR HO H1 H4 Hk
  iapply (take_s m K c 1 3 35 rfl) $$ HR HO H1
  iintro HO H2 H3
  iapply (take_p m K c 1 4 35 rfl) $$ HR HO H4
  iintro HO H5 H6
  iapply (fin c _)
  iapply Hk $$ HO H2 H3 H5 H6

/-- Part 58: sent messages are waited for. -/
theorem part58 {Q : (PUnit) → sProp 𝕄} :
    recs m K ⊢ iprop(owesE c 35 -∗ ready c 2 1 4 -∗ ready c 0 1 5
      -∗ (owesE c 35 -∗ done c 2 1 4 -∗ agBack m c 1 4 -∗ done c 0 1 5 -∗ rsBack m c 1 5 -∗ Q ⟨⟩)
      -∗ WP c (app (k0_part58 (F := F)) c) Q) := by
  rw [k0_part58_eq_skeleton]
  unfold k0_part58_skel
  simp only [Prog.lift, Prog.bind_op, Prog.bind_ret, Prog.pure_eq_ret]
  iintro #HR HO H1 H4 Hk
  iapply (take_s m K c 1 4 35 rfl) $$ HR HO H1
  iintro HO H2 H3
  iapply (take_p m K c 1 5 35 rfl) $$ HR HO H4
  iintro HO H5 H6
  iapply (fin c _)
  iapply Hk $$ HO H2 H3 H5 H6

/-- Part 59: sent messages are waited for. -/
theorem part59 {Q : (PUnit) → sProp 𝕄} :
    recs m K ⊢ iprop(owesE c 35 -∗ ready c 2 1 5 -∗ ready c 0 1 6
      -∗ (owesE c 35 -∗ done c 2 1 5 -∗ agBack m c 1 5 -∗ done c 0 1 6 -∗ rsBack m c 1 6 -∗ Q ⟨⟩)
      -∗ WP c (app (k0_part59 (F := F)) c) Q) := by
  rw [k0_part59_eq_skeleton]
  unfold k0_part59_skel
  simp only [Prog.lift, Prog.bind_op, Prog.bind_ret, Prog.pure_eq_ret]
  iintro #HR HO H1 H4 Hk
  iapply (take_s m K c 1 5 35 rfl) $$ HR HO H1
  iintro HO H2 H3
  iapply (take_p m K c 1 6 35 rfl) $$ HR HO H4
  iintro HO H5 H6
  iapply (fin c _)
  iapply Hk $$ HO H2 H3 H5 H6

end Cert.Mesh
-- ==== Proof.Chain.lean ====
/-
The kernel's parts run one after the other.
-/

module

public import proofs.«01_k».proof.Proof.PartsS
public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The sum the kernel has stored is the one meant, rounded and unrounded. -/
theorem ag_full (h : Fin 2) (v : S64x256.Idx → Elt F .bf16) (hv : v = agV m c h) :
    (owns (c : Thread nD τ) (agSlot h c) fullShare v : sProp 𝕄) ⊢ owns (c : Thread nD τ) (agSlot h c) fullShare (agV m c h) := by
  subst hv; exact .rfl
theorem out_full (h : Fin 2) (v : S64x256.Idx → Elt F .f32) (hv : v = redV m c h) :
    (owns (c : Thread nD τ) (outSlot h c) fullShare v : sProp 𝕄) ⊢ owns (c : Thread nD τ) (outSlot h c) fullShare (redV m c h) := by
  subst hv; exact .rfl

set_option maxHeartbeats 20000000 in
/-- The kernel's parts in their order, up to the last wait: what the device holds at the start, and what it holds then. -/
theorem chain {Q : Dev nD → sProp 𝕄} :
    recs m K ⊢ iprop(owesE c 0 -∗ bigSep Finset.univ (fun k => sigGo c k) -∗ wgOwn m c -∗ anyAt c wgM -∗ wsV c 0
       -∗ wuOwn m c -∗ anyAt c wuM -∗ wsV c 1 -∗ wdOwn m c 0
       -∗ anyAt c (wdDst 0) -∗ wsV c 2 -∗ wdOwn m c 1 -∗ anyAt c (wdDst 1)
       -∗ wsV c 3 -∗ xOwn m c -∗ anyAt c (pHalf 0) -∗ anyAt c (pHalf 1)
       -∗ atPos ER (barCell c) 0 ∅ 0 -∗ cred (tallyAt (barCell c) () 7) -∗ bigSep Finset.univ (fun k => rsTok c 0 k) -∗ bigSep Finset.univ (fun k => rsTok c 1 k)
       -∗ bigSep Finset.univ (fun k => agTok c 0 k) -∗ bigSep Finset.univ (fun k => agTok c 1 k) -∗ bigSep Finset.univ (fun k => ready c 1 0 k) -∗ bigSep Finset.univ (fun k => ready c 1 1 k)
       -∗ bigSep Finset.univ (fun k => ready c 3 0 k) -∗ bigSep Finset.univ (fun k => ready c 3 1 k) -∗ anyAt c (agSlot 0 c) -∗ anyAt c (outSlot 0 c)
       -∗ bigSep Finset.univ (fun k => anyAt c (outSlot 0 (bwd c k))) -∗ anyAt c (agSlot 1 c) -∗ anyAt c (outSlot 1 c) -∗ bigSep Finset.univ (fun k => anyAt c (outSlot 1 (bwd c k)))

      -∗ (owesE c 35 -∗ wgOwn m c -∗ anyAt c wgM -∗ wsV c 0 -∗ wuOwn m c
         -∗ anyAt c wuM -∗ wsV c 1 -∗ wdOwn m c 0 -∗ anyAt c (wdDst 0)
         -∗ wsV c 2 -∗ xOwn m c -∗ atPos ER (barCell c) 1 ∅ 0 -∗ wdOwn m c 1
         -∗ anyAt c (wdDst 1) -∗ wsV c 3 -∗ owns (Val := Elt F) (c : Thread nD τ) (pBlk 0 c) fullShare (blk m c 0 c) -∗ owns (Val := Elt F) (c : Thread nD τ) (outSlot 0 c) fullShare (redV m c 0)
         -∗ bigSep Finset.univ (fun k => done c 1 0 k) -∗ bigSep Finset.univ (fun k => rsIn m c 0 k) -∗ owns (Val := Elt F) (c : Thread nD τ) (agSlot 0 c) (Transfers.shareDrop fullShare 7) (agV m c 0) -∗ owns (Val := Elt F) (c : Thread nD τ) (pBlk 1 c) fullShare (blk m c 1 c)
         -∗ owns (Val := Elt F) (c : Thread nD τ) (outSlot 1 c) fullShare (redV m c 1) -∗ bigSep Finset.univ (fun k => done c 1 1 k) -∗ bigSep Finset.univ (fun k => rsIn m c 1 k) -∗ owns (Val := Elt F) (c : Thread nD τ) (agSlot 1 c) (Transfers.shareDrop fullShare 7) (agV m c 1)
         -∗ ready c 2 1 6 -∗ bigSep Finset.univ (fun k => done c 3 0 k) -∗ bigSep Finset.univ (fun k => agIn m c 0 k) -∗ bigSep Finset.univ (fun k => owns (Val := Elt F) (c : Thread nD τ) (outSlot 0 (bwd c k)) fullShare (wide (agV m (bwd c k) 0)))
         -∗ bigSep Finset.univ (fun k => done c 3 1 k) -∗ bigSep Finset.univ (fun k => agIn m c 1 k) -∗ bigSep Finset.univ (fun k => owns (Val := Elt F) (c : Thread nD τ) (outSlot 1 (bwd c k)) fullShare (wide (agV m (bwd c k) 1))) -∗ bigSep Finset.univ (fun k => done c 0 0 k)
         -∗ bigSep Finset.univ (fun k => rsBack m c 0 k) -∗ bigSep Finset.univ (fun k => done c 2 0 k) -∗ bigSep Finset.univ (fun k => agBack m c 0 k) -∗ done c 2 1 0
         -∗ agBack m c 1 0 -∗ done c 2 1 1 -∗ agBack m c 1 1 -∗ done c 2 1 2
         -∗ agBack m c 1 2 -∗ done c 2 1 3 -∗ agBack m c 1 3 -∗ done c 2 1 4
         -∗ agBack m c 1 4 -∗ done c 2 1 5 -∗ agBack m c 1 5 -∗ bigSep Finset.univ (fun k => done c 0 1 k)
         -∗ bigSep Finset.univ (fun k => rsBack m c 1 k)
        -∗ Q c)
      -∗ WP c (app (k0_part60 (F := F))) Q) := by
  rw [k0_part60_eq_skeleton]
  unfold k0_part60_skel
  iintro #HR HO A1 A2 A3 A4 A5 A6 A7 A8 A9 A10 A11 A12 A13 A14 A15 A16 A17 A18 A19 A20 A21 A22 A23 A24 A25 A26 A27 A28 A29 A30 A31 A32 Hk
  ihave A1 := (open7 _) $$ A1
  icases A1 with ⟨A33, A34, A35, A36, A37, A38, A39⟩
  iapply (first c _ _)
  iapply (part1 m K c) $$ HR HO A33 A34 A35 A36 A37
  iintro %u1_0 %u1_1 %u1_2 HO
  iapply (first c _ _)
  iapply (part2 m K c _ _ _) $$ HR HO A38 A39 A2 A3 A4 A5 A6 A7 A8 A9 A10 A11 A12 A13 A14
  iintro HO A40 A41 A42 A43 A44 A45 A46
  iapply (first c _ _)
  iapply (part3 m K c _) $$ HR HO A43 A44 A46 A15 A17 A18
  iintro %u3_0 HO A47 A48 A49 A50 A51 A52 A53 A54 A55 A56
  ihave A56 := (bar_give c) $$ A56
  icases A56 with ⟨⟨A57, A58⟩, A59, A60⟩
  ihave A54 := (rs_ready m c 0) $$ A54 A57 A19
  icases A54 with ⟨A61, A54⟩
  ihave A54 := (open7 _) $$ A54
  icases A54 with ⟨A62, A63, A64, A65, A66, A67, A68⟩
  iapply (first c _ _)
  iapply (part4 m K c _ _) $$ HR HO A62
  iintro %u4_0 HO A69
  iapply (first c _ _)
  iapply (part5 m K c _) $$ HR HO A63 A64
  iintro %u5_0 HO A70 A71
  obtain ⟨w5_0, w5_1, w5_2⟩ := u5_0
  iapply (first c _ _)
  iapply (part6 m K c _ _ _) $$ HR HO A65
  iintro %u6_0 HO A72
  obtain ⟨w6_0, w6_1⟩ := u6_0
  iapply (first c _ _)
  iapply (part7 m K c _) $$ HR HO A66
  iintro %u7_0 HO A73
  iapply (first c _ _)
  iapply (part8 m K c _) $$ HR HO A67 A68
  iintro %u8_0 HO A74 A75
  iapply (first c _ _)
  iapply (part9 m K c _) $$ HR HO A45 A16 A58 A20
  iintro %u9_0 HO A76 A77 A78 A79 A80 A81 A82 A83 A84 A85 A86
  obtain ⟨w9_0, w9_1⟩ := u9_0
  iapply (first c _ _)
  iapply (part10 m K c _ _) $$ HR HO A81
  iintro %u10_0 HO A87
  obtain ⟨w10_0, w10_1⟩ := u10_0
  iapply (first c _ _)
  iapply (part11 m K c _) $$ HR HO A82
  iintro %u11_0 HO A88
  iapply (first c _ _)
  iapply (part12 m K c _) $$ HR HO A83 A84
  iintro %u12_0 HO A89 A90
  obtain ⟨w12_0, w12_1⟩ := u12_0
  iapply (first c _ _)
  iapply (part13 m K c _ _) $$ HR HO A85
  iintro %u13_0 HO A91
  ihave A23 := (open7 _) $$ A23
  icases A23 with ⟨A92, A93, A94, A95, A96, A97, A98⟩
  iapply (first c _ _)
  iapply (part14 m K c _ _) $$ HR HO A86 A61 A92
  iintro HO A99 A100 A101 A102
  iapply (first c _ _)
  iapply (part15 m K c _ _ _) $$ HR HO A102 A93
  iintro HO A103 A104 A105
  iapply (first c _ _)
  iapply (part16 m K c _ _) $$ HR HO A94 A95
  iintro HO A106 A107 A108 A109
  iapply (first c _ _)
  iapply (part17 m K c _ _ _) $$ HR HO A109 A96
  iintro HO A110 A111 A112
  iapply (first c _ _)
  iapply (part18 m K c _ _) $$ HR HO A97 A98
  iintro HO A113 A114 A115 A116
  iapply (first c _ _)
  iapply (part19 m K c _ _) $$ HR HO A116 A28 A27
  iintro %u19_0 HO A117 A118 A119
  ihave A120 := (close7 (fun k => (done c 1 0 k : sProp 𝕄))) $$ A101 A104 A106 A108 A111 A113 A115
  ihave A121 := (close7 (fun k => (rsIn m c 0 k : sProp 𝕄))) $$ A103 A105 A107 A110 A112 A114 A117
  ihave A119 := (ag_full m c 0 _ (by rfl)) $$ A119
  ihave A118 := (out_full m c 0 _ (by rfl)) $$ A118
  ihave A119 := (ag_ready m c 0) $$ A119 A59 A21
  icases A119 with ⟨A122, A119⟩
  ihave A119 := (open7 _) $$ A119
  icases A119 with ⟨A123, A124, A125, A126, A127, A128, A129⟩
  iapply (first c _ _)
  iapply (part20 m K c _) $$ HR HO A123 A124
  iintro %u20_0 HO A130 A131
  obtain ⟨w20_0, w20_1⟩ := u20_0
  iapply (first c _ _)
  iapply (part21 m K c _) $$ HR HO A125
  iintro %u21_0 HO A132
  iapply (first c _ _)
  iapply (part22 m K c _) $$ HR HO A126 A127
  iintro %u22_0 HO A133 A134
  obtain ⟨w22_0, w22_1⟩ := u22_0
  iapply (first c _ _)
  iapply (part23 m K c _ _) $$ HR HO A128
  iintro %u23_0 HO A135
  iapply (first c _ _)
  iapply (part24 m K c _ _) $$ HR HO A129 A79
  iintro HO A136 A137
  ihave A24 := (open7 _) $$ A24
  icases A24 with ⟨A138, A139, A140, A141, A142, A143, A144⟩
  iapply (first c _ _)
  iapply (part25 m K c _ _ _) $$ HR HO A138 A139
  iintro HO A145 A146 A147 A148
  iapply (first c _ _)
  iapply (part26 m K c _ _) $$ HR HO A140
  iintro HO A149 A150
  iapply (first c _ _)
  iapply (part27 m K c _ _ _) $$ HR HO A141 A142
  iintro HO A151 A152 A153 A154
  iapply (first c _ _)
  iapply (part28 m K c _ _) $$ HR HO A143
  iintro HO A155 A156
  iapply (first c _ _)
  iapply (part29 m K c _ _) $$ HR HO A144 A31 A30
  iintro %u29_0 HO A157 A158 A159 A160
  ihave A161 := (close7 (fun k => (done c 1 1 k : sProp 𝕄))) $$ A145 A147 A149 A151 A153 A155 A157
  ihave A162 := (close7 (fun k => (rsIn m c 1 k : sProp 𝕄))) $$ A146 A148 A150 A152 A154 A156 A158
  ihave A160 := (ag_full m c 1 _ (by rfl)) $$ A160
  ihave A159 := (out_full m c 1 _ (by rfl)) $$ A159
  ihave A160 := (ag_ready m c 1) $$ A160 A60 A22
  icases A160 with ⟨A163, A160⟩
  ihave A160 := (open7 _) $$ A160
  icases A160 with ⟨A164, A165, A166, A167, A168, A169, A170⟩
  iapply (first c _ _)
  iapply (part30 m K c _) $$ HR HO A164 A165
  iintro %u30_0 HO A171 A172
  obtain ⟨w30_0, w30_1⟩ := u30_0
  iapply (first c _ _)
  iapply (part31 m K c _ _) $$ HR HO A166
  iintro %u31_0 HO A173
  iapply (first c _ _)
  iapply (part32 m K c _) $$ HR HO A167 A168
  iintro %u32_0 HO A174 A175
  obtain ⟨w32_0, w32_1⟩ := u32_0
  iapply (first c _ _)
  iapply (part33 m K c _ _) $$ HR HO A169
  iintro %u33_0 HO A176
  obtain ⟨w33_0, w33_1⟩ := u33_0
  iapply (first c _ _)
  iapply (part34 m K c _ _) $$ HR HO A170
  iintro %u34_0 HO A177
  ihave A25 := (open7 _) $$ A25
  icases A25 with ⟨A178, A179, A180, A181, A182, A183, A184⟩
  ihave A29 := (open7 _) $$ A29
  icases A29 with ⟨A185, A186, A187, A188, A189, A190, A191⟩
  iapply (first c _ _)
  iapply (part35 m K c _ _ _) $$ HR HO A178 A185 A179
  iintro %u35_0 HO A192 A193 A194 A195 A196
  iapply (first c _ _)
  iapply (part36 m K c _ _ _ _) $$ HR HO A186 A180 A187
  iintro %u36_0 HO A197 A198 A199 A200
  iapply (first c _ _)
  iapply (part37 m K c _ _ _) $$ HR HO A181 A188
  iintro %u37_0 HO A201 A202 A203
  obtain ⟨w37_0, w37_1⟩ := u37_0
  iapply (first c _ _)
  iapply (part38 m K c _ _ _ _ _) $$ HR HO A182 A189
  iintro %u38_0 HO A204 A205 A206
  iapply (first c _ _)
  iapply (part39 m K c _ _ _) $$ HR HO A183 A190
  iintro %u39_0 HO A207 A208 A209
  ihave A26 := (open7 _) $$ A26
  icases A26 with ⟨A210, A211, A212, A213, A214, A215, A216⟩
  iapply (first c _ _)
  iapply (part40 m K c _ _ _) $$ HR HO A184 A191 A210
  iintro %u40_0 HO A217 A218 A219 A220 A221
  ihave A222 := (close7 (fun k => (done c 3 0 k : sProp 𝕄))) $$ A192 A195 A198 A201 A204 A207 A217
  ihave A223 := (close7 (fun k => (agIn m c 0 k : sProp 𝕄))) $$ A193 A196 A199 A202 A205 A208 A218
  ihave A224 := (close7 (fun k => (owns (c : Thread nD τ) (outSlot 0 (bwd c k)) fullShare (wide (agV m (bwd c k) 0)) : sProp 𝕄))) $$ A194 A197 A200 A203 A206 A209 A219
  ihave A32 := (open7 _) $$ A32
  icases A32 with ⟨A225, A226, A227, A228, A229, A230, A231⟩
  iapply (first c _ _)
  iapply (part41 m K c _ _ _) $$ HR HO A221 A225 A211
  iintro %u41_0 HO A232 A233 A234 A235
  iapply (first c _ _)
  iapply (part42 m K c _ _ _ _) $$ HR HO A226 A212 A227
  iintro %u42_0 HO A236 A237 A238 A239
  iapply (first c _ _)
  iapply (part43 m K c _ _ _ _) $$ HR HO A213 A228
  iintro %u43_0 HO A240 A241 A242
  iapply (first c _ _)
  iapply (part44 m K c _ _ _) $$ HR HO A214 A229
  iintro %u44_0 HO A243 A244 A245
  iapply (first c _ _)
  iapply (part45 m K c _ _ _) $$ HR HO A215 A230
  iintro %u45_0 HO A246 A247 A248
  iapply (first c _ _)
  iapply (part46 m K c _) $$ HR HO A216 A231 A69
  iintro HO A249 A250 A251 A252 A253
  ihave A254 := (close7 (fun k => (done c 3 1 k : sProp 𝕄))) $$ A220 A234 A237 A240 A243 A246 A249
  ihave A255 := (close7 (fun k => (agIn m c 1 k : sProp 𝕄))) $$ A232 A235 A238 A241 A244 A247 A250
  ihave A256 := (close7 (fun k => (owns (c : Thread nD τ) (outSlot 1 (bwd c k)) fullShare (wide (agV m (bwd c k) 1)) : sProp 𝕄))) $$ A233 A236 A239 A242 A245 A248 A251
  iapply (first c _ _)
  iapply (part47 m K c) $$ HR HO A130 A70
  iintro HO A257 A258 A259 A260
  iapply (first c _ _)
  iapply (part48 m K c) $$ HR HO A131 A71
  iintro HO A261 A262 A263 A264
  iapply (first c _ _)
  iapply (part49 m K c) $$ HR HO A132 A72
  iintro HO A265 A266 A267 A268
  iapply (first c _ _)
  iapply (part50 m K c) $$ HR HO A133 A73
  iintro HO A269 A270 A271 A272
  iapply (first c _ _)
  iapply (part51 m K c) $$ HR HO A134 A74
  iintro HO A273 A274 A275 A276
  iapply (first c _ _)
  iapply (part52 m K c) $$ HR HO A135 A75
  iintro HO A277 A278 A279 A280
  iapply (first c _ _)
  iapply (part53 m K c) $$ HR HO A136 A80
  iintro HO A281 A282 A283 A284
  ihave A285 := (close7 (fun k => (done c 0 0 k : sProp 𝕄))) $$ A252 A259 A263 A267 A271 A275 A279
  ihave A286 := (close7 (fun k => (rsBack m c 0 k : sProp 𝕄))) $$ A253 A260 A264 A268 A272 A276 A280
  ihave A287 := (close7 (fun k => (done c 2 0 k : sProp 𝕄))) $$ A257 A261 A265 A269 A273 A277 A281
  ihave A288 := (close7 (fun k => (agBack m c 0 k : sProp 𝕄))) $$ A258 A262 A266 A270 A274 A278 A282
  iapply (first c _ _)
  iapply (part54 m K c) $$ HR HO A171 A87
  iintro HO A289 A290 A291 A292
  iapply (first c _ _)
  iapply (part55 m K c) $$ HR HO A172 A88
  iintro HO A293 A294 A295 A296
  iapply (first c _ _)
  iapply (part56 m K c) $$ HR HO A173 A89
  iintro HO A297 A298 A299 A300
  iapply (first c _ _)
  iapply (part57 m K c) $$ HR HO A174 A90
  iintro HO A301 A302 A303 A304
  iapply (first c _ _)
  iapply (part58 m K c) $$ HR HO A175 A91
  iintro HO A305 A306 A307 A308
  iapply (first c _ _)
  iapply (part59 m K c) $$ HR HO A176 A99
  iintro HO A309 A310 A311 A312
  ihave A313 := (close7 (fun k => (done c 0 1 k : sProp 𝕄))) $$ A283 A291 A295 A299 A303 A307 A311
  ihave A314 := (close7 (fun k => (rsBack m c 1 k : sProp 𝕄))) $$ A284 A292 A296 A300 A304 A308 A312
  iapply (fin c _)
  iapply Hk $$ HO A40 A41 A42 A47 A48 A49 A50 A51 A52 A53 A55 A76 A77 A78 A100 A118 A120 A121 A122 A137 A159 A161 A162 A163 A177 A222 A223 A224 A254 A255 A256 A285 A286 A287 A288 A289 A290 A293 A294 A297 A298 A301 A302 A305 A306 A309 A310 A313 A314

end Cert.Mesh
-- ==== Proof.Body.lean ====
/-
The kernel's body on one device.
-/

module

public import proofs.«01_k».proof.Proof.Chain

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

set_option maxHeartbeats 20000000 in
/-- The whole kernel on a device: from what it holds before its first signal to what it holds after its last wait. -/
theorem body_run {Q : PUnit → sProp 𝕄} :
    recs m K ⊢ iprop(owesE c 0 -∗ bigSep Finset.univ (fun k => sigGo c k) -∗ wgOwn m c -∗ anyAt c wgM -∗ wsV c 0
       -∗ wuOwn m c -∗ anyAt c wuM -∗ wsV c 1 -∗ wdOwn m c 0
       -∗ anyAt c (wdDst 0) -∗ wsV c 2 -∗ wdOwn m c 1 -∗ anyAt c (wdDst 1)
       -∗ wsV c 3 -∗ xOwn m c -∗ anyAt c (pHalf 0) -∗ anyAt c (pHalf 1)
       -∗ atPos ER (barCell c) 0 ∅ 0 -∗ cred (tallyAt (barCell c) () 7) -∗ bigSep Finset.univ (fun k => rsTok c 0 k) -∗ bigSep Finset.univ (fun k => rsTok c 1 k)
       -∗ bigSep Finset.univ (fun k => agTok c 0 k) -∗ bigSep Finset.univ (fun k => agTok c 1 k) -∗ bigSep Finset.univ (fun k => ready c 1 0 k) -∗ bigSep Finset.univ (fun k => ready c 1 1 k)
       -∗ bigSep Finset.univ (fun k => ready c 3 0 k) -∗ bigSep Finset.univ (fun k => ready c 3 1 k) -∗ anyAt c (agSlot 0 c) -∗ anyAt c (outSlot 0 c)
       -∗ bigSep Finset.univ (fun k => anyAt c (outSlot 0 (bwd c k))) -∗ anyAt c (agSlot 1 c) -∗ anyAt c (outSlot 1 c) -∗ bigSep Finset.univ (fun k => anyAt c (outSlot 1 (bwd c k)))

      -∗ (owesE c 35 -∗ wgOwn m c -∗ anyAt c wgM -∗ wsV c 0 -∗ wuOwn m c
         -∗ anyAt c wuM -∗ wsV c 1 -∗ wdOwn m c 0 -∗ anyAt c (wdDst 0)
         -∗ wsV c 2 -∗ xOwn m c -∗ atPos ER (barCell c) 1 ∅ 0 -∗ wdOwn m c 1
         -∗ anyAt c (wdDst 1) -∗ wsV c 3 -∗ owns (Val := Elt F) (c : Thread nD τ) (pBlk 0 c) fullShare (blk m c 0 c) -∗ owns (Val := Elt F) (c : Thread nD τ) (outSlot 0 c) fullShare (redV m c 0)
         -∗ bigSep Finset.univ (fun k => done c 1 0 k) -∗ bigSep Finset.univ (fun k => rsIn m c 0 k) -∗ owns (Val := Elt F) (c : Thread nD τ) (agSlot 0 c) (Transfers.shareDrop fullShare 7) (agV m c 0) -∗ owns (Val := Elt F) (c : Thread nD τ) (pBlk 1 c) fullShare (blk m c 1 c)
         -∗ owns (Val := Elt F) (c : Thread nD τ) (outSlot 1 c) fullShare (redV m c 1) -∗ bigSep Finset.univ (fun k => done c 1 1 k) -∗ bigSep Finset.univ (fun k => rsIn m c 1 k) -∗ owns (Val := Elt F) (c : Thread nD τ) (agSlot 1 c) (Transfers.shareDrop fullShare 7) (agV m c 1)
         -∗ bigSep Finset.univ (fun k => done c 3 0 k) -∗ bigSep Finset.univ (fun k => agIn m c 0 k) -∗ bigSep Finset.univ (fun k => owns (Val := Elt F) (c : Thread nD τ) (outSlot 0 (bwd c k)) fullShare (wide (agV m (bwd c k) 0))) -∗ bigSep Finset.univ (fun k => done c 3 1 k)
         -∗ bigSep Finset.univ (fun k => agIn m c 1 k) -∗ bigSep Finset.univ (fun k => owns (Val := Elt F) (c : Thread nD τ) (outSlot 1 (bwd c k)) fullShare (wide (agV m (bwd c k) 1))) -∗ bigSep Finset.univ (fun k => done c 0 0 k) -∗ bigSep Finset.univ (fun k => rsBack m c 0 k)
         -∗ bigSep Finset.univ (fun k => done c 2 0 k) -∗ bigSep Finset.univ (fun k => agBack m c 0 k) -∗ bigSep Finset.univ (fun k => done c 0 1 k) -∗ bigSep Finset.univ (fun k => rsBack m c 1 k)
         -∗ bigSep Finset.univ (fun k => done c 2 1 k) -∗ bigSep Finset.univ (fun k => agBack m c 1 k)
        -∗ |={Set.univ}=> Q ⟨⟩)
      -∗ WP c (app (cc0_body (F := F))) Q) := by
  rw [cc0_body_eq_skeleton]
  unfold cc0_body_skel
  iintro #HR HO A1 A2 A3 A4 A5 A6 A7 A8 A9 A10 A11 A12 A13 A14 A15 A16 A17 A18 A19 A20 A21 A22 A23 A24 A25 A26 A27 A28 A29 A30 A31 A32 Hk
  iapply (first c _ _)
  iapply (chain m K c) $$ HR HO A1 A2 A3 A4 A5 A6 A7 A8 A9 A10 A11 A12 A13 A14 A15 A16 A17 A18 A19 A20 A21 A22 A23 A24 A25 A26 A27 A28 A29 A30 A31 A32
  iintro HO A40 A41 A42 A47 A48 A49 A50 A51 A52 A53 A55 A76 A77 A78 A100 A118 A120 A121 A122 A137 A159 A161 A162 A163 A177 A222 A223 A224 A254 A255 A256 A285 A286 A287 A288 A289 A290 A293 A294 A297 A298 A301 A302 A305 A306 A309 A310 A313 A314
  simp only [Prog.lift, Prog.bind_op, Prog.bind_ret, Prog.pure_eq_ret]
  iapply (take_s m K c 1 6 35 rfl) $$ HR HO A177
  iintro HO E1 E2
  ihave D := (close7 (fun k => (done c 2 1 k : sProp 𝕄))) $$ A289 A293 A297 A301 A305 A309 E1
  ihave B := (close7 (fun k => (agBack m c 1 k : sProp 𝕄))) $$ A290 A294 A298 A302 A306 A310 E2
  iapply (Entails.of_eq (wp_ret ..).symm)
  iapply Hk $$ HO A40 A41 A42 A47 A48 A49 A50 A51 A52 A53 A55 A76 A77 A78 A100 A118 A120 A121 A122 A137 A159 A161 A162 A163 A222 A223 A224 A254 A255 A256 A285 A286 A287 A288 A313 A314 D B

end Cert.Mesh
-- ==== Proof.Ghost.lean ====
/-
The launch's ghost state: cells, tokens, the invariants of the mesh allocated, the tokens dealt to who pays them.
-/

module

public import proofs.«01_k».proof.Proof.PartsS

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The tokens of a device's own cells: one for each barrier signal, one for each transfer's semaphore. -/
abbrev TI : Type := Fin 7 ⊕ (Fin 4 × Fin 2 × Fin 7)
/-- A device's own DMA semaphores: the four of its local copies, and the transfers'. -/
abbrev OI : Type := Fin 4 ⊕ (Fin 4 × Fin 2 × Fin 7)
abbrev osem : OI → SemLoc sig
  | .inl i => .dma (ws i)
  | .inr i => .dma (xs i.1 i.2.1 i.2.2)

theorem xs_inj (i j : Fin 4 × Fin 2 × Fin 7) (h : xs i.1 i.2.1 i.2.2 = xs j.1 j.2.1 j.2.2) : i = j := by
  have h1 := congrArg dec h
  rw [dec_xs, dec_xs] at h1
  exact h1

theorem csem_inj : Function.Injective csem := by
  rintro (⟨⟩ | i) (⟨⟩ | j) h
  · rfl
  · cases h
  · cases h
  · exact congrArg Sum.inr (xs_inj i j (by injection h))
theorem kcell_inj : Function.Injective (kcell : Dev nD × CI → GSem nD τ sig) := by
  rintro ⟨c, i⟩ ⟨d, j⟩ h
  have h1 : c = d := congrArg (fun g : GSem nD τ sig => g.1.1) h
  have h2 : i = j := csem_inj (congrArg Prod.snd h)
  rw [h1, h2]

abbrev tokOf (p : Dev nD × TI) : GSem nD τ sig × ℕ × Fin 7 := match p.2 with
  | .inl k => (barCell p.1, 0, k)
  | .inr i => (xCell p.1 i.1 i.2.1 i.2.2, 0, 0)
theorem tokOf_inj : Function.Injective (tokOf : Dev nD × TI → GSem nD τ sig × ℕ × Fin 7) := by
  rintro ⟨c, i⟩ ⟨d, j⟩ h
  have h1 : c = d := by
    have := congrArg (fun x : GSem nD τ sig × ℕ × Fin 7 => x.1.1.1) h
    rcases i with i | i <;> rcases j with j | j <;> exact this
  subst h1
  rcases i with i | i <;> rcases j with j | j
  · have := congrArg (fun x : GSem nD τ sig × ℕ × Fin 7 => x.2.2) h
    exact congrArg (fun k => (c, Sum.inl k)) this
  · have := congrArg (fun x : GSem nD τ sig × ℕ × Fin 7 => x.1.2) h; cases this
  · have := congrArg (fun x : GSem nD τ sig × ℕ × Fin 7 => x.1.2) h; cases this
  · have := congrArg (fun x : GSem nD τ sig × ℕ × Fin 7 => x.1.2) h
    exact congrArg (fun k => (c, Sum.inr k)) (xs_inj i j (by injection this))

def theCells : Finset (GSem nD τ sig) := Finset.univ.map ⟨kcell, kcell_inj⟩
def theToks : Finset (GSem nD τ sig × ℕ × Fin 7) := Finset.univ.map ⟨tokOf, tokOf_inj⟩

def u₀ : UU := (initOf (Pipeline.cells cfgs cellOf_inj) (Pipeline.launchToks cfgs cellOf_inj), (initOf theCells theToks, 1))

/-- Who pays a token: the signal's and the landing's sender, else the cell's own device. -/
def payer : TI → (Dev nD ≃ Dev nD)
  | .inl k => step k
  | .inr (a, _, k) => if a = 1 ∨ a = 3 then step k else Equiv.refl _

def tok (p : Dev nD × TI) : sProp 𝕄 := dutyTok ER (tokOf p).1 (tokOf p).2.1 (tokOf p).2.2
/-- The tokens of the duties device `c` pays. -/
def payToks (c : Dev nD) : sProp 𝕄 := bigSep Finset.univ fun i : TI => tok (payer i c, i)

/-- A big conjunction over pairs, in the other order. -/
theorem swapped {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1)]
  exact bigSep_univ_equiv (Equiv.prodComm B A) (fun p : A × B => Φ p.1 p.2)

theorem around : (bigSep Finset.univ fun c : Dev nD => bigSep Finset.univ fun i : TI => (tok (c, i) : sProp 𝕄))
    = bigSep Finset.univ fun c : Dev nD => payToks c := by
  unfold payToks
  rw [swapped, swapped (fun c i => (tok (payer i c, i) : sProp 𝕄))]
  exact bigSep_congr fun i _ => bigSep_univ_equiv (payer i) (fun c => (tok (c, i) : sProp 𝕄))

/-- What the launch deals a device. -/
def G (c : Dev nD) : sProp 𝕄 :=
  iprop((bigSep Finset.univ fun i : CI => roundState ER (rd m) (kcell (c, i)) 0)
    ∗ ((bigSep Finset.univ fun i : CI => atPos ER (kcell (c, i)) 0 ∅ 0) ∗ (bigSep Finset.univ fun i : CI => reached ER (kcell (c, i)) 0))
    ∗ bigSep Finset.univ fun i : TI => tok (c, i))

/-- The mesh's invariants, and that every cell is at its first round. -/
def known (K : Dev nD × CI → ℕ) : sProp 𝕄 :=
  iprop(bigSep Finset.univ (fun p : Dev nD × CI => cellInv ER (rd m) (K p) (kcell p))
    ∗ bigSep Finset.univ (fun p : Dev nD × CI => reached ER (kcell p) 0))
instance known_persistent (K : Dev nD × CI → ℕ) : BI.Persistent (known m K) := by unfold known; infer_instance

/-- A device's own places, the tokens it pays, its local copies' semaphores at zero. -/
def linear (c : Dev nD) : sProp 𝕄 :=
  iprop((bigSep Finset.univ fun i : CI => atPos ER (kcell (c, i)) 0 ∅ 0) ∗ payToks c ∗ bigSep Finset.univ fun i => wsV c i)

/-- What the mesh's launch step makes of it. -/
def G' (c : Dev nD) : sProp 𝕄 := iprop(∃ K, known m K ∗ linear c)

theorem fund_mesh : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun i : CI => Φ (kcell (c, i)) := by
    unfold theCells; rw [bigSep_map, bigSep_univ_prod]; rfl
  have hT : bigSep theToks (fun x => (dutyTok ER x.1 x.2.1 x.2.2 : sProp 𝕄)) = bigSep Finset.univ fun c : Dev nD => bigSep Finset.univ fun i : TI => tok (c, i) := by
    unfold theToks; rw [bigSep_map, bigSep_univ_prod]; rfl
  iintro HX
  imod (Rounds.fund ER (rd m) theCells theToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems_eq (c : Dev nD) : (Pipeline.ownSems0 (Ix := Unit) (Name := ℕ) (U := UU) (Lvl := ℕ) (Val := Elt F) (τ := τ) osem c : sProp 𝕄)
    = iprop((bigSep Finset.univ fun i => wsV c i) ∗ bigSep Finset.univ fun i : Fin 4 × Fin 2 × Fin 7 => semVal (xCell c i.1 i.2.1 i.2.2) 0) := by
  unfold Pipeline.ownSems0; rw [BI.bigSep_univ_sum]; rfl
theorem unscopedSems_eq (c : Dev nD) : (unscopedSems0 c : sProp 𝕄) = semVal (barCell c) 0 := by
  unfold unscopedSems0; rw [bigSep_eq_bigSepL_of_eq [SemLoc.reg barS] (by decide) (by decide)]; rfl
theorem cells_eq (c : Dev nD) (Φ : GSem nD τ sig → sProp 𝕄) : (bigSep Finset.univ fun i : CI => Φ (kcell (c, i)))
    = iprop(Φ (barCell c) ∗ bigSep Finset.univ fun i : Fin 4 × Fin 2 × Fin 7 => Φ (xCell c i.1 i.2.1 i.2.2)) := by
  rw [BI.bigSep_univ_sum]
  congr 1
  exact bigSep_univ_eq_bigSepL [()] (by decide) (by decide) _

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (rd m) κ (kcell (c, i))))
          ∗ (bigSep Finset.univ fun i : CI => reached ER (kcell (c, i)) 0)
          ∗ ((bigSep Finset.univ fun i : CI => atPos ER (kcell (c, i)) 0 ∅ 0) ∗ (bigSep Finset.univ fun i => wsV c i))
          ∗ bigSep Finset.univ fun i : TI => tok (c, i)) := by
  unfold G
  rw [ownSems_eq, unscopedSems_eq]
  iintro ⟨⟨Hw, Hx⟩, Hb, Hst, ⟨Hat, Hr⟩, Htok⟩
  ihave Hv := (Entails.of_eq (cells_eq (F := F) c fun g => semVal g 0).symm) $$ [Hx Hb]
  · isplitl [Hb] <;> iassumption
  imod (show iprop((bigSep Finset.univ fun i : CI => semVal (kcell (c, i)) 0) ∗ bigSep Finset.univ fun i : CI => roundState ER (rd m) (kcell (c, i)) 0)
      ⊢ (|={Set.univ}=> bigSep Finset.univ fun i => iprop(∃ κ : ℕ, cellInv ER (rd m) κ (kcell (c, i))) : sProp 𝕄) from by
        rw [← bigSep_sep']
        exact (bigSep_mono fun i _ => (Rounds.body_intro ER (rd m) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat Hw]
  · isplitl [Hat] <;> iassumption
  iexact Htok

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (rd m) κ (kcell (c, i))))
          ∗ (bigSep Finset.univ fun i : CI => reached ER (kcell (c, i)) 0)
          ∗ ((bigSep Finset.univ fun i : CI => atPos ER (kcell (c, i)) 0 ∅ 0) ∗ (bigSep Finset.univ fun i => wsV c i))
          ∗ bigSep Finset.univ fun i : TI => tok (c, i)) : sProp 𝕄)
      ⊢ bigSep Finset.univ (G' m) := by
  rw [bigSep_sep', bigSep_sep', bigSep_sep', bigSep_sep', around, ← bigSep_univ_prod (fun p : Dev nD × CI => iprop(∃ κ : ℕ, cellInv ER (rd m) κ (kcell p))),
    ← bigSep_univ_prod (fun p : Dev nD × CI => (reached ER (kcell p) 0 : sProp 𝕄))]
  iintro ⟨HI, #HR, ⟨Hat, Hw⟩, Htok⟩
  ihave HK := (BI.bigSep_exists_pi Finset.univ (fun (p : Dev nD × CI) (κ : ℕ) => (cellInv ER (rd m) κ (kcell p) : sProp 𝕄))) $$ HI
  icases HK with ⟨%K, #HI⟩
  iapply (with_known (R := known m K) (Φ := linear) fun c _ => (show (iprop(known m K ∗ linear c) : sProp 𝕄) ⊢ G' m c from by
    unfold G'; iintro ⟨H1, H2⟩; iexists K; isplitl [H1] <;> iassumption))
  isplitr
  · unfold known; isplitl; · iexact HI
    iexact HR
  · unfold linear; rw [bigSep_sep', bigSep_sep']
    isplitl [Hat]; · iexact Hat
    isplitl [Htok] <;> iassumption

/-- The launch's one step over the whole mesh. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- The semaphore of the `t`-th payment. -/
def smT (t : ℕ) : SemLoc sig :=
  if t < 7 then .reg barS else .dma (xs (if t < 21 then 1 else 3) (Fin.ofNat 2 (t / 7 + 1)) (Fin.ofNat 7 t))
theorem dcell_eq (d : Dev nD) (t : ℕ) : dcell d t = ((fwd d (Fin.ofNat 7 t) : Thread nD τ), smT t) := by
  unfold dcell smT
  split
  · rfl
  · split <;> rfl

theorem sum_at (c : Dev nD) (sm : SemLoc sig) : (∑ d : Dev nD, owed d 0 ((c : Thread nD τ), sm) ()) = ∑ t ∈ Finset.Ico 0 35, if sm = smT t then damt t else 0 := by
  unfold owed
  simp only [Finset.sum_apply, Finsupp.finset_sum_apply]
  rw [Finset.sum_comm]
  refine Finset.sum_congr rfl fun t _ => ?_
  simp only [tallyAt_apply, dcell_eq]
  rw [Finset.sum_eq_single (bwd c (Fin.ofNat 7 t))]
  · rw [fwd_bwd]
    by_cases h : sm = smT t
    · rw [if_pos h, if_pos ⟨by rw [h], trivial⟩]
    · rw [if_neg h, if_neg fun h' => h (congrArg Prod.snd h'.1)]
  · intro d _ hd
    refine if_neg fun h' => hd ?_
    have h1 : c = fwd d (Fin.ofNat 7 t) := congrArg (fun g : GSem nD τ sig => g.1.1) h'.1
    rw [h1, bwd_fwd]
  · intro h; exact absurd (Finset.mem_univ _) h

theorem sum_bar (c : Dev nD) : (∑ d : Dev nD, owed d 0 (barCell c) ()) = 7 := by
  rw [sum_at, ← Finset.sum_filter]
  have e : (Finset.Ico 0 35).filter (fun t => (SemLoc.reg barS : SemLoc sig) = smT t) = Finset.Ico 0 7 := by decide
  rw [e, Finset.sum_congr rfl fun t ht => show damt t = 1 from if_pos (Finset.mem_Ico.mp ht).2]
  rfl
theorem sum_x (c : Dev nD) (a : Fin 4) (ha : a = 1 ∨ a = 3) (h : Fin 2) (k : Fin 7) : (∑ d : Dev nD, owed d 0 (xCell c a h k) ()) = N := by
  rw [sum_at, ← Finset.sum_filter]
  have e : ∀ (a : Fin 4) (_ : a = 1 ∨ a = 3) (h : Fin 2) (k : Fin 7), (Finset.Ico 0 35).filter (fun t => (SemLoc.dma (xs a h k) : SemLoc sig) = smT t) = {7 * a.val + 7 * h.val + k.val} := by decide
  rw [e a ha h k, Finset.sum_singleton]
  exact damt_x _ (by rcases ha with rfl | rfl <;> simp <;> omega)

end Cert.Mesh
-- ==== Proof.Device.lean ====
/-
A device's run from what the launch deals it to what it leaves.
-/

module

public import proofs.«01_k».proof.Proof.Body
public import proofs.«01_k».proof.Proof.Ghost

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The transfers' semaphores, or what is held of each, array by array and half by half. -/
theorem eight (Φ : Fin 4 × Fin 2 × Fin 7 → sProp 𝕄) : bigSep Finset.univ Φ
    = iprop((bigSep Finset.univ (fun k => Φ (0, 0, k)) ∗ bigSep Finset.univ (fun k => Φ (0, 1, k)))
      ∗ (bigSep Finset.univ (fun k => Φ (1, 0, k)) ∗ bigSep Finset.univ (fun k => Φ (1, 1, k)))
      ∗ (bigSep Finset.univ (fun k => Φ (2, 0, k)) ∗ bigSep Finset.univ (fun k => Φ (2, 1, k)))
      ∗ (bigSep Finset.univ (fun k => Φ (3, 0, k)) ∗ bigSep Finset.univ (fun k => Φ (3, 1, k)))) := by
  rw [bigSep_univ_prod, bigSep_univ_eq_bigSepL [0, 1, 2, 3] (by decide) (by decide)]
  simp only [bigSepL_cons_cons, bigSepL_singleton, bigSep_univ_prod, bigSep_fin_two]
  rfl
theorem two (Φ : Fin 2 → sProp 𝕄) : bigSep Finset.univ Φ = iprop(Φ 0 ∗ Φ 1) := bigSep_fin_two Φ
theorem summed (Φ : TI → sProp 𝕄) : bigSep Finset.univ Φ
    = iprop((bigSep Finset.univ fun k => Φ (.inl k)) ∗ bigSep Finset.univ fun i => Φ (.inr i)) := BI.bigSep_univ_sum Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem whole_any (b : Ref sig .tc) : (anyBuf c b : sProp 𝕄) ⊢ anyAt c (Memref.whole b) := by
  unfold anyBuf anyAt
  rw [Memref.view_whole, View.set_whole]
theorem any_whole (b : Ref sig .tc) : (anyAt c (Memref.whole b) : sProp 𝕄) ⊢ anyBuf c b := by
  unfold anyBuf anyAt
  rw [Memref.view_whole, View.set_whole]
theorem whole_owns (b : Ref sig .tc) (X : b.ty.Contents (Elt F)) :
    (((c : Thread nD τ).loc b) ↦{fullShare} X : sProp 𝕄) ⊢ owns (Val := Elt F) (c : Thread nD τ) (Memref.whole b) fullShare X := by
  unfold owns; simp only [Memref.view_whole, View.read_whole, View.set_whole]
  iintro H; iexists X; isplitr; · (ipureintro; rfl)
  iexact H
theorem owns_whole (b : Ref sig .tc) (X : b.ty.Contents (Elt F)) :
    (owns (Val := Elt F) (c : Thread nD τ) (Memref.whole b) fullShare X : sProp 𝕄) ⊢ (((c : Thread nD τ).loc b) ↦{fullShare} X) := by
  unfold owns; simp only [Memref.view_whole, View.read_whole, View.set_whole]
  iintro ⟨%f, %hf, H⟩; subst hf
  iexact H

theorem wg_in : (((c : Thread nD τ).loc main_arg1) ↦{fullShare} m ((c : Thread nD τ).loc main_arg1) : sProp 𝕄) ⊢ wgOwn m c := whole_owns c main_arg1 _
theorem wu_in : (((c : Thread nD τ).loc main_arg2) ↦{fullShare} m ((c : Thread nD τ).loc main_arg2) : sProp 𝕄) ⊢ wuOwn m c := whole_owns c main_arg2 _
theorem wg_out : wgOwn m c ⊢ (((c : Thread nD τ).loc main_arg1) ↦{fullShare} m ((c : Thread nD τ).loc main_arg1) : sProp 𝕄) := owns_whole c main_arg1 _
theorem wu_out : wuOwn m c ⊢ (((c : Thread nD τ).loc main_arg2) ↦{fullShare} m ((c : Thread nD τ).loc main_arg2) : sProp 𝕄) := owns_whole c main_arg2 _
theorem wgM_in : (anyBuf c cc0_scratch0 : sProp 𝕄) ⊢ anyAt c wgM := whole_any c _
theorem wuM_in : (anyBuf c cc0_scratch1 : sProp 𝕄) ⊢ anyAt c wuM := whole_any c _
theorem wgM_out : (anyAt c wgM : sProp 𝕄) ⊢ anyBuf c cc0_scratch0 := any_whole c _
theorem wuM_out : (anyAt c wuM : sProp 𝕄) ⊢ anyBuf c cc0_scratch1 := any_whole c _

/-- What the launch deals a device of the mesh's ghost state, sorted. -/
def dealt : sProp 𝕄 :=
  iprop(bigSep Finset.univ (fun k => dutyTok ER (barCell (fwd c k)) 0 k) ∗ atPos ER (barCell c) 0 ∅ 0
    ∗ (bigSep Finset.univ (fun k => rsTok c 0 k) ∗ bigSep Finset.univ (fun k => rsTok c 1 k))
    ∗ (bigSep Finset.univ (fun k => agTok c 0 k) ∗ bigSep Finset.univ (fun k => agTok c 1 k))
    ∗ (bigSep Finset.univ (fun k => atPos ER (xCell c 1 0 k) 0 ∅ 0) ∗ bigSep Finset.univ (fun k => atPos ER (xCell c 1 1 k) 0 ∅ 0))
    ∗ (bigSep Finset.univ (fun k => atPos ER (xCell c 3 0 k) 0 ∅ 0) ∗ bigSep Finset.univ (fun k => atPos ER (xCell c 3 1 k) 0 ∅ 0))
    ∗ wsV c 0 ∗ wsV c 1 ∗ wsV c 2 ∗ wsV c 3)

theorem linear_dealt : linear c ⊢ (dealt c : sProp 𝕄) := by
  unfold linear dealt payToks rsTok agTok
  rw [cells_eq c fun g => atPos ER g 0 ∅ 0, summed, eight, eight, four]
  simp only [bigSep_sep']
  iintro ⟨⟨Ab, ⟨A00, A01⟩, ⟨A10, A11⟩, ⟨A20, A21⟩, ⟨A30, A31⟩⟩, ⟨Tb, ⟨T00, T01⟩, ⟨T10, T11⟩, ⟨T20, T21⟩, ⟨T30, T31⟩⟩, W⟩
  isplitl [Tb]; · iexact Tb
  isplitl [Ab]; · iexact Ab
  isplitl [A00 A01 T00 T01 T10 T11]
  · isplitl [A00 T00 T10]
    · isplitl [T00 T10]
      · isplitl [T00]; · iexact T00
        iexact T10
      iexact A00
    isplitl [T01 T11]
    · isplitl [T01]; · iexact T01
      iexact T11
    iexact A01
  isplitl [A20 A21 T20 T21 T30 T31]
  · isplitl [A20 T20 T30]
    · isplitl [T20 T30]
      · isplitl [T20]; · iexact T20
        iexact T30
      iexact A20
    isplitl [T21 T31]
    · isplitl [T21]; · iexact T21
      iexact T31
    iexact A21
  isplitl [A10 A11]
  · isplitl [A10]; · iexact A10
    iexact A11
  isplitl [A30 A31]
  · isplitl [A30]; · iexact A30
    iexact A31
  iexact W

/-- The credit of the mesh's payments, sorted. -/
def credits : sProp 𝕄 :=
  iprop(cred (tallyAt (barCell c) () 7)
    ∗ (bigSep Finset.univ (fun k => cred (tallyAt (xCell c 1 0 k) () N)) ∗ bigSep Finset.univ (fun k => cred (tallyAt (xCell c 1 1 k) () N)))
    ∗ (bigSep Finset.univ (fun k => cred (tallyAt (xCell c 3 0 k) () N)) ∗ bigSep Finset.univ (fun k => cred (tallyAt (xCell c 3 1 k) () N))))

theorem tally_launch (O : Dev nD → CellTallies nD τ sig Unit) (g : GSem nD τ sig) (n : ℕ) (h : (∑ d : Dev nD, O d g ()) = n) :
    tallyOn g (launchCredit (Pipeline.owing O) 0 g) = (tallyAt g () n : CellTallies nD τ sig Unit) := by
  unfold tallyAt; refine congrArg _ (Finsupp.ext fun u => ?_); cases u
  rw [Pipeline.launchCredit_owing, Finsupp.single_eq_same, h]
theorem cell_credit (g : GSem nD τ sig) (n : ℕ) (h : (∑ d : Dev nD, owed d 0 g ()) = n) :
    (cred (tallyOn g (launchCredit (Pipeline.owing fun d => owed d 0) 0 g)) : sProp 𝕄) = cred (tallyAt g () n) :=
  congrArg cred (tally_launch (fun d => owed d 0) g n h)

theorem creds : (Pipeline.launchCred (fun d => owed d 0) c : sProp 𝕄) ⊢ credits c := by
  unfold Pipeline.launchCred credits
  have hsub : (Finset.univ.map ⟨csem, csem_inj⟩ : Finset (SemLoc sig)) ⊆ Finset.univ := Finset.subset_univ _
  refine (bigSep_subset hsub).trans ?_
  rw [bigSep_map]
  refine (Entails.of_eq (cells_eq c fun g => cred (tallyOn g (launchCredit (Pipeline.owing fun d => owed d 0) 0 g)))).trans ?_
  rw [eight, cell_credit (barCell c) 7 (sum_bar c)]
  have hx : ∀ (a : Fin 4) (ha : a = 1 ∨ a = 3) (h : Fin 2), (bigSep Finset.univ (fun k : Fin 7 => cred (tallyOn (xCell c a h k) (launchCredit (Pipeline.owing fun d => owed d 0) 0 (xCell c a h k)))) : sProp 𝕄)
      = bigSep Finset.univ (fun k => cred (tallyAt (xCell c a h k) () N)) := fun a ha h =>
    bigSep_congr fun k _ => cell_credit _ N (sum_x c a ha h k)
  simp only [hx 1 (.inl rfl), hx 3 (.inr rfl)]
  iintro ⟨B, -, H1, -, H3⟩
  isplitl [B]; · iexact B
  isplitl [H1]; · iexact H1
  iexact H3

/-- What the scratch buffers' places hold back together. -/
theorem out_close (h : Fin 2) : (owns (Val := Elt F) (c : Thread nD τ) (outSlot h c) fullShare (redV m c h) : sProp 𝕄)
    ⊢ iprop(bigSep Finset.univ (fun k => owns (Val := Elt F) (c : Thread nD τ) (outSlot h (bwd c k)) fullShare (wide (agV m (bwd c k) h)))
      -∗ bigSep Finset.univ (fun j : Fin 8 => owns (Val := Elt F) (c : Thread nD τ) (outSlot h j) fullShare (piece m c h j))) := by
  rw [roundb c fun j => owns (Val := Elt F) (c : Thread nD τ) (outSlot h j) fullShare (piece m c h j)]
  iintro H0 H
  isplitl [H0]
  · rw [show piece m c h c = redV m c h from if_pos rfl]; iexact H0
  have e : ∀ k, piece m c h (bwd c k) = wide (agV m (bwd c k) h) := fun k => if_neg (by rw [← fwd_rev]; exact fwd_ne c _)
  simp only [e]
  iexact H
theorem pb_close (h : Fin 2) : (owns (Val := Elt F) (c : Thread nD τ) (pBlk h c) fullShare (blk m c h c) : sProp 𝕄)
    ⊢ iprop(bigSep Finset.univ (fun k => rsBack m c h k) -∗ anyAt c (pHalf h)) := by
  iintro H0 H
  iapply (gather_pb m c h)
  iapply (Entails.of_eq (round c fun j => anyAt (F := F) c (pBlk h j)).symm)
  isplitl [H0]
  · iapply (owns_any) $$ H0
  have h2 : (bigSep Finset.univ (fun k => rsBack m c h k) : sProp 𝕄) ⊢ bigSep Finset.univ (fun k => anyAt c (pBlk h (fwd c k))) := bigSep_mono fun k _ => owns_any
  iapply h2 $$ H
theorem ag_close (h : Fin 2) : (owns (Val := Elt F) (c : Thread nD τ) (agSlot h c) (Transfers.shareDrop fullShare 7) (agV m c h) : sProp 𝕄)
    ⊢ iprop(bigSep Finset.univ (fun k => agBack m c h k) -∗ bigSep Finset.univ (fun k => agIn m c h k) -∗ bigSep Finset.univ (fun j : Fin 8 => anyAt c (agSlot h j))) := by
  iintro H0 HB H
  iapply (Entails.of_eq (roundb c fun j => anyAt (F := F) c (agSlot h j)).symm)
  isplitl [H0 HB]
  · iapply (owns_any (v := agV m c h))
    iapply (gather_q c (agSlot h c) (agV m c h))
    isplitl [H0]; · iexact H0
    iexact HB
  have h2 : (bigSep Finset.univ (fun k => agIn m c h k) : sProp 𝕄) ⊢ bigSep Finset.univ (fun k => anyAt c (agSlot h (bwd c k))) := bigSep_mono fun k _ => owns_any
  iapply h2 $$ H
theorem rs_close (h : Fin 2) : (bigSep Finset.univ (fun k => rsIn m c h k) : sProp 𝕄) ⊢ bigSep Finset.univ (fun k => anyAt c (rsSlot h k)) :=
  bigSep_mono fun k _ => owns_any

/-- The cells done with are closed: their counters are at zero. -/
theorem sems_close (a : Fin 4) (h : Fin 2) : recs m K ⊢ iprop(bigSep Finset.univ (fun k => done c a h k)
    -∗ |={Set.univ}=> bigSep Finset.univ (fun k => semVal (xCell c a h k) 0)) := by
  iintro #HR H
  have h1 : (iprop(recs m K ∗ bigSep Finset.univ (fun k => done c a h k)) : sProp 𝕄) ⊢ bigSep Finset.univ (fun k => iprop(|={Set.univ}=> semVal (xCell c a h k) 0)) :=
    with_known (Φ := fun k => done c a h k) fun k _ =>
      (sep_mono_left (recs_inv m K (c, .inr (a, h, k)))).trans
        (Rounds.cell_close ER (rd m) (Set.mem_univ (K (c, .inr (a, h, k)))) (fun h => h) (R := 0 + 1) (duties_later m (xCell c a h k)))
  iapply (bigSep_fupd _ _)
  iapply h1
  isplitr; · iexact HR
  iexact H
theorem bar_close : recs m K ⊢ iprop(atPos ER (barCell c) 1 ∅ 0 -∗ |={Set.univ}=> semVal (barCell c) 0) := by
  iintro #HR H
  iapply (Rounds.cell_close ER (rd m) (Set.mem_univ (K (c, .inl ()))) (fun h => h) (R := 0 + 1) (duties_later m (barCell c)))
  isplitr; · iapply (recs_inv m K (c, .inl ())); iexact HR
  iexact H

/-- The arguments' memory, and the scratch buffers at any contents. -/
def argsAt : sProp 𝕄 := iprop((((c : Thread nD τ).loc main_arg1) ↦{fullShare} m ((c : Thread nD τ).loc main_arg1))
  ∗ (((c : Thread nD τ).loc main_arg2) ↦{fullShare} m ((c : Thread nD τ).loc main_arg2)) ∗ (((c : Thread nD τ).loc main_arg3) ↦{fullShare} m ((c : Thread nD τ).loc main_arg3)))
def scratch : sProp 𝕄 := iprop(anyBuf c cc0_scratch0 ∗ anyBuf c cc0_scratch1 ∗ anyBuf c cc0_scratch2 ∗ anyBuf c cc0_scratch3 ∗ anyBuf c cc0_scratch4 ∗ anyBuf c cc0_scratch5)
/-- What is held after the run: the arguments unchanged, every semaphore of the device at zero. -/
def after : sProp 𝕄 := iprop(argsAt m c ∗ scratch c
  ∗ Pipeline.ownSems0 (Ix := Unit) (Name := ℕ) (U := UU) (Lvl := ℕ) (Val := Elt F) (τ := τ) osem c ∗ unscopedSems0 c)

set_option maxHeartbeats 20000000 in
/-- The kernel on a device from what the launch deals it to what it leaves: the result staged, nothing else changed. -/
theorem device_run {Q : PUnit → sProp 𝕄} :
    recs m K ⊢ iprop(dealt c -∗ credits c -∗ argsAt m c -∗ scratch c -∗ owesE c 0 -∗ xOwn m c -∗ anyBuf c cc0_stg1_0
      -∗ (owesE c 35 -∗ xOwn m c -∗ (((c : Thread nD τ).loc cc0_stg1_0) ↦{fullShare} outV m c) -∗ after m c -∗ Q ⟨⟩)
      -∗ WP c (app (cc0_body (F := F))) Q) := by
  unfold dealt credits argsAt scratch after
  rw [ownSems_eq, unscopedSems_eq, eight, four]
  unfold argsAt scratch
  iintro #HR ⟨Tb, Ab, ⟨R0, R1⟩, ⟨G0, G1⟩, ⟨L0, L1⟩, ⟨M0, M1⟩, W0, W1, W2, W3⟩ ⟨Cb, ⟨C0, C1⟩, ⟨D0, D1⟩⟩ ⟨Y1, Y2, Y3⟩ ⟨S0, S1, S2, S3, S4, S5⟩ HO Hx Ho Hk
  ihave Y1 := (wg_in m c) $$ Y1
  ihave Y2 := (wu_in m c) $$ Y2
  ihave Y3 := (deal_wds m c) $$ Y3
  icases Y3 with ⟨Y3, Y4⟩
  ihave S0 := (wgM_in c) $$ S0
  ihave S1 := (wuM_in c) $$ S1
  ihave S2 := (deal_wdd c) $$ S2
  icases S2 with ⟨S2, S2'⟩
  ihave S3 := (deal_ph c) $$ S3
  icases S3 with ⟨S3, S3'⟩
  ihave S4 := ((deal_rs c).trans (Entails.of_eq (two _))) $$ S4
  ihave S5 := ((deal_ag c).trans (Entails.of_eq (two _))) $$ S5
  icases S5 with ⟨S5, S5'⟩
  ihave S5 := (Entails.of_eq (round c _)) $$ S5
  icases S5 with ⟨S5, E5⟩
  ihave S5' := (Entails.of_eq (round c _)) $$ S5'
  icases S5' with ⟨S5', E5'⟩
  ihave Ho := ((deal_out c).trans (Entails.of_eq (two _))) $$ Ho
  icases Ho with ⟨Ho, Ho'⟩
  ihave Ho := (Entails.of_eq (roundb c _)) $$ Ho
  icases Ho with ⟨Ho, F0⟩
  ihave Ho' := (Entails.of_eq (roundb c _)) $$ Ho'
  icases Ho' with ⟨Ho', F1⟩
  ihave S4 := (sig_take c) $$ [S4 E5 E5']
  · isplitl [S4]; · iexact S4
    isplitl [E5]; · iexact E5
    iexact E5'
  ihave Tb := (Entails.of_eq (show _ = (bigSep Finset.univ (fun k : Fin 7 => sigGo c k) : sProp 𝕄) from (bigSep_sep' Finset.univ (fun k : Fin 7 => (dutyTok ER (barCell (fwd c k)) 0 k : sProp 𝕄)) (fun k => barPay (fwd c k) k)).symm)) $$ [Tb S4]
  · isplitl [Tb] <;> iassumption
  ihave L0 := (Entails.of_eq (show _ = (bigSep Finset.univ (fun k : Fin 7 => ready c 1 0 k) : sProp 𝕄) from (bigSep_sep' Finset.univ (fun k : Fin 7 => (atPos ER (xCell c 1 0 k) 0 ∅ 0 : sProp 𝕄)) (fun k => cred (tallyAt (xCell c 1 0 k) () N))).symm)) $$ [L0 C0]
  · isplitl [L0] <;> iassumption
  ihave L1 := (Entails.of_eq (show _ = (bigSep Finset.univ (fun k : Fin 7 => ready c 1 1 k) : sProp 𝕄) from (bigSep_sep' Finset.univ (fun k : Fin 7 => (atPos ER (xCell c 1 1 k) 0 ∅ 0 : sProp 𝕄)) (fun k => cred (tallyAt (xCell c 1 1 k) () N))).symm)) $$ [L1 C1]
  · isplitl [L1] <;> iassumption
  ihave M0 := (Entails.of_eq (show _ = (bigSep Finset.univ (fun k : Fin 7 => ready c 3 0 k) : sProp 𝕄) from (bigSep_sep' Finset.univ (fun k : Fin 7 => (atPos ER (xCell c 3 0 k) 0 ∅ 0 : sProp 𝕄)) (fun k => cred (tallyAt (xCell c 3 0 k) () N))).symm)) $$ [M0 D0]
  · isplitl [M0] <;> iassumption
  ihave M1 := (Entails.of_eq (show _ = (bigSep Finset.univ (fun k : Fin 7 => ready c 3 1 k) : sProp 𝕄) from (bigSep_sep' Finset.univ (fun k : Fin 7 => (atPos ER (xCell c 3 1 k) 0 ∅ 0 : sProp 𝕄)) (fun k => cred (tallyAt (xCell c 3 1 k) () N))).symm)) $$ [M1 D1]
  · isplitl [M1] <;> iassumption
  iapply (body_run m K c) $$ HR HO Tb Y1 S0 W0 Y2 S1 W1 Y3 S2 W2 Y4 S2' W3 Hx S3 S3' Ab Cb R0 R1 G0 G1 L0 L1 M0 M1 S5 Ho F0 S5' Ho' F1
  iintro HO A40 A41 A42 A47 A48 A49 A50 A51 A52 A53 A55 A76 A77 A78 A100 A118 A120 A121 A122 A137 A159 A161 A162 A163 A222 A223 A224 A254 A255 A256 A285 A286 A287 A288 A313 A314 D B
  imod (sems_close m K c 0 0) $$ HR A285 with Z00
  imod (sems_close m K c 0 1) $$ HR A313 with Z01
  imod (sems_close m K c 1 0) $$ HR A120 with Z10
  imod (sems_close m K c 1 1) $$ HR A161 with Z11
  imod (sems_close m K c 2 0) $$ HR A287 with Z20
  imod (sems_close m K c 2 1) $$ HR D with Z21
  imod (sems_close m K c 3 0) $$ HR A222 with Z30
  imod (sems_close m K c 3 1) $$ HR A254 with Z31
  imod (bar_close m K c) $$ HR A55 with Zb
  imodintro
  ihave Y1 := (wg_out m c) $$ A40
  ihave Y2 := (wu_out m c) $$ A47
  ihave Y3 := (gather_wds m c) $$ [A50 A76]
  · isplitl [A50] <;> iassumption
  ihave S0 := (wgM_out c) $$ A41
  ihave S1 := (wuM_out c) $$ A48
  ihave S2 := (gather_wdd m c) $$ [A51 A77]
  · isplitl [A51] <;> iassumption
  ihave P0 := (pb_close m c 0) $$ A100 A286
  ihave P1 := (pb_close m c 1) $$ A137 A314
  ihave S3 := (gather_ph m c) $$ [P0 P1]
  · isplitl [P0] <;> iassumption
  ihave P0 := (rs_close m c 0) $$ A121
  ihave P1 := (rs_close m c 1) $$ A162
  ihave S4 := ((Entails.of_eq (two (fun h : Fin 2 => (bigSep Finset.univ (fun k : Fin 7 => anyAt c (rsSlot h k)) : sProp 𝕄))).symm).trans (gather_rs m c)) $$ [P0 P1]
  · isplitl [P0] <;> iassumption
  ihave P0 := (ag_close m c 0) $$ A122 A288 A223
  ihave P1 := (ag_close m c 1) $$ A163 B A255
  ihave S5 := ((Entails.of_eq (two (fun h : Fin 2 => (bigSep Finset.univ (fun j : Fin 8 => anyAt c (agSlot h j)) : sProp 𝕄))).symm).trans (gather_ag m c)) $$ [P0 P1]
  · isplitl [P0] <;> iassumption
  ihave P0 := (out_close m c 0) $$ A118 A224
  ihave P1 := (out_close m c 1) $$ A159 A256
  ihave Ho := ((Entails.of_eq (two (fun h : Fin 2 => (bigSep Finset.univ (fun j : Fin 8 => owns (Val := Elt F) (c : Thread nD τ) (outSlot h j) fullShare (piece m c h j)) : sProp 𝕄))).symm).trans (gather_out m c)) $$ [P0 P1]
  · isplitl [P0] <;> iassumption
  iapply Hk $$ HO A53 Ho
  isplitl [Y1 Y2 Y3]
  · isplitl [Y1]; · iexact Y1
    isplitl [Y2] <;> iassumption
  isplitl [S0 S1 S2 S3 S4 S5]
  · isplitl [S0]; · iexact S0
    isplitl [S1]; · iexact S1
    isplitl [S2]; · iexact S2
    isplitl [S3]; · iexact S3
    isplitl [S4] <;> iassumption
  isplitr [Zb]
  · isplitl [A42 A49 A52 A78]
    · isplitl [A42]; · iexact A42
      isplitl [A49]; · iexact A49
      isplitl [A52] <;> iassumption
    isplitl [Z00 Z01]
    · isplitl [Z00] <;> iassumption
    isplitl [Z10 Z11]
    · isplitl [Z10] <;> iassumption
    isplitl [Z20 Z21]
    · isplitl [Z20] <;> iassumption
    isplitl [Z30] <;> iassumption
  iexact Zb

end Cert.Mesh
-- ==== Proof.Run.lean ====
/-
The run on the mesh.
-/

module

public import proofs.«01_k».proof.Proof.Device
public import Idealize.ShloMosaic.Lib.Pipeline.CollectiveSegs

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## What a device's body starts from and ends with -/

/-- What a device brings to its body: its share of the mesh's ghost state, its credit, the weights' memory. -/
def start (c : Dev nD) : sProp 𝕄 := iprop(G' m c ∗ credits c ∗ levAts L lv ∗ argsAt m c)

/-- The launch's data: the activations staged in, the result staged out; the body takes what the device brings and the
    scratch buffers to what is held after the run; the device owes all its payments before, nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => outV m c
  Φ t := match t with
    | ⟨0, _⟩ => iprop(start m c ∗ scratch c)
    | ⟨_ + 1, _⟩ => after m c
  q _ := fullShare
  owed t := match t with
    | ⟨0, _⟩ => owed c 0
    | ⟨_ + 1, _⟩ => 0

theorem fetch_x (t : Fin cfg0.N) : (cfg0.win (0 : Fin 2)).fetch t = true := by rw [fin_N0 t]; rfl

theorem owns_whole_eq (c : Dev nD) (b : Ref sig .tc) (X : b.ty.Contents (Elt F)) :
    (owns (Val := Elt F) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 100000 in
def bodyPre (c : Dev nD) : sProp 𝕄 :=
  iprop((start m c ∗ scratch c) ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
set_option maxRecDepth 100000 in
def bodyPost (c : Dev nD) : sProp 𝕄 :=
  iprop(after m c ∗ (dats m ρ 0 c).owesAt () t0_0.succ ∗ staged c cc0_stg0_0 (xC m c) ∗ staged c cc0_stg1_0 (outV m c))

set_option maxRecDepth 100000 in
set_option maxHeartbeats 2000000 in
/-- The body runs from what the launch hands it to what the launch expects back. -/
theorem body_sound (c : Dev nD) : bodyPre m ρ c ⊢ WP c (app (cc0_body (F := F))) (fun _ => bodyPost m ρ c) := by
  unfold bodyPre start G'
  iintro ⟨⟨⟨⟨%K, ⟨#HK, Hlin⟩⟩, Hcr, #Hlev, Hargs⟩, Hscr⟩, Ho, ⟨%d0, %g0, %hg0, Hx⟩, ⟨%d1, %g1, %hg1, Hout⟩⟩
  have hx : g0 = xC m c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = owed c 0 from rfl]
  ihave Hlin := (linear_dealt c) $$ Hlin
  iapply (device_run m K c) $$ [] Hlin Hcr Hargs Hscr [HO] [Hx] [Hout]
  · unfold known
    unfold recs
    icases HK with ⟨H1, H2⟩
    isplitl; · iexact H1
    isplitl; · iexact H2
    iexact Hlev
  · unfold owesE; iexists W; iexact HO
  · iapply (whole_owns c cc0_stg0_0 (xC m c)); iexact Hx
  · unfold anyBuf; iexists g1; iexact Hout
  iintro HO Hx Hout Hafter
  unfold bodyPost Dat.owesAt Pipeline.owesWithin
  rw [show (dats m ρ 0 c).owed t0_0.succ = 0 from rfl]
  isplitl [Hafter]; · iexact Hafter
  isplitl [HO]
  · unfold owesE
    rw [owed_end]
    icases HO with ⟨%W', HO⟩
    iexists W'; isplitr; · (ipureintro; exact fun _ _ => Or.inl trivial)
    iexact HO
  isplitl [Hx]
  · iexists _; isplitr; · (ipureintro; rfl)
    iapply (owns_whole c cc0_stg0_0 (xC m c)); iexact Hx
  iexists _; isplitr; · (ipureintro; rfl)
  iexact Hout

set_option maxRecDepth 100000 in
/-- The launch's obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (app (cc0_body (F := F))) (fun _ => bodyPost m ρ c)
  exact body_sound m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds c) $$ Hcr
  imodintro
  unfold start argsAt
  isplitl
  · isplitl [HG]; · iexact HG
    isplitl [Hc]; · iexact Hc
    isplitl [Hlev]; · iexact Hlev
    iexact Ha
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch anyBuf
  iintro ⟨Hs, -, Hr⟩
  isplitl [Hs]; · iexact Hs
  iexact Hr

theorem leave (c : Dev nD) :
    (dats m ρ 0 c).Φ (Fin.last cfg0.N) ⊢ iprop((argsAt m c ∗ unscopedSems0 c) ∗ Pipeline.ownSems0 osem c ∗ Pipeline.scopedRest cfg0.spec c) := by
  rw [show (dats m ρ 0 c).Φ (Fin.last cfg0.N) = after m c from rfl, scopedRest0_eq]
  unfold after scratch anyBuf
  iintro ⟨Ha, Hr, Ho, Hu⟩
  isplitl [Ha Hu]
  · isplitl [Ha] <;> iassumption
  isplitl [Ho] <;> iassumption

/-- A staging copy's semaphore is below every payment. -/
theorem lv_stage (c : Dev nD) (w : Fin cfg0.W) (s) : lv ((c : Thread nD τ), SemLoc.dma ((cfg0.win w).sem s)) () = 0 := by
  show (if 6 ≤ ((cfg0.win w).sem s).val then _ else 0) = 0
  exact if_neg (by revert s; revert w; decide)

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero c _ 0 (lv_stage c w s)
    · rw [show (dats m ρ 0 c).owed ⟨_ + 1, ht⟩ = 0 from rfl, MayWait_zero]; iintro -; iempintro

/-- What the run leaves in device `c`'s memory besides the windows' arrays: the weights. -/
def Rest (c : Dev nD) (s : MemSt nD τ sig (Elt F)) : Prop :=
  s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem read_out (c : Dev nD) (s' : Phys nD τ sig (Elt F)) : iprop((argsAt m c ∗ unscopedSems0 c) ∗ emp ∗ SI s')
    ⊢ |={Set.univ}=> (iprop(⌜Rest m c s'.mem ∧ ∀ sm : SemLoc sig, sm.isScoped .tc = false → s'.mem.sem ((c.tc : Thread nD τ), sm) = 0⌝ ∗ SI s') : sProp 𝕄) := by
  unfold argsAt
  iintro ⟨⟨⟨H1, H2, H3⟩, Hu⟩, -, HSI⟩
  ihave %h1 := SI_pointsTo_agree $$ [HSI H1]
  · isplitl [HSI] <;> iassumption
  ihave %h2 := SI_pointsTo_agree $$ [HSI H2]
  · isplitl [HSI] <;> iassumption
  ihave %h3 := SI_pointsTo_agree $$ [HSI H3]
  · isplitl [HSI] <;> iassumption
  imod (Pipeline.unscopedSems0_read (X := unscopedSems0 c) (c := c) fupd_intro s') $$ [Hu HSI] with ⟨%h4, HSI⟩
  · isplitl [Hu] <;> iassumption
  imodintro
  isplitr
  · ipureintro
    exact ⟨⟨funext fun i => h1 i (Finset.mem_univ _), funext fun i => h2 i (Finset.mem_univ _), funext fun i => h3 i (Finset.mem_univ _)⟩, h4⟩
  iexact HSI

/-! ## The run -/

def finalA (c : Dev nD) (w : Fin cfg0.W) : Buf (Elt F) ((cfg0.win w).arr.view.loc (c : Thread nD τ)) := (dats m ρ 0 c).arrAt w cfg0.N

/-- On every device the windows' arrays are as the launch leaves them and the weights are as before. -/
def QC : PUnit × MemSt nD τ sig (Elt F) → Prop := fun r =>
  ∀ c : Dev nD, (∀ w : Fin cfg0.W, r.2.mem ((cfg0.win w).arr.view.loc (c : Thread nD τ)) = finalA m ρ c w) ∧ Rest m c r.2

set_option maxRecDepth 100000 in
/-- On the mesh of eight devices, for any float values and from any memory with the counters at zero: every fair run of
    the eight kernels terminates, the arrays are as `QC` says, and every semaphore's counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_mesh m) $$ [HX] with HG
      · iexact HX
      imodintro
      isplitl [HP] <;> iassumption)
    (hglob := glob m)
    (hA := fun _ _ => rfl) (hpf := fun _ k => k.elim0)
    (X := start m) (Y := fun c => iprop(argsAt m c ∗ unscopedSems0 c)) (Z := fun _ => iprop(emp))
    (hX := start_intro m ρ) (hin := enter m ρ) (hout := leave m ρ)
    (QY := fun c s => Rest m c s ∧ ∀ sm : SemLoc sig, sm.isScoped .tc = false → s.sem ((c.tc : Thread nD τ), sm) = 0)
    (hY := read_out m)
    (hQ := fun _ h hs => ⟨fun c => ⟨fun w => (h c).1 w, (h c).2.2.1⟩, sem_eq_zero hs fun c => (h c).2.2.2⟩)

/-- The activations' array after the run holds what it held. -/
theorem finalA_x (c : Dev nD) : finalA m ρ c (0 : Fin 2) = m ((c : Thread nD τ).loc main_arg0) :=
  (dats (F := F) m ρ 0 c).arrAt_in (0 : Fin 2) rfl _

end Cert.Mesh
-- ==== Proof.Result.lean ====
/-
The result's array after the run.
-/

module

public import proofs.«01_k».proof.Proof.Run
public import proofs.«01_k».proof.Proof.Gen.KernelIdeal.Points
public import Idealize.ShloMosaic.Lib.Pipeline.Value

@[expose] public section

set_option maxRecDepth 16384

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window)

variable (ρ : Dev nD → PrngReg)

/-- The one block of the result's window starts at the array's corner, so its indices are the array's own. -/
theorem out_emb (i : S512x512.Idx) : (win0_1.blk (0 : Fin 1)).view.emb i = i := by
  funext x
  fin_cases x
  · exact Fin.ext (show 0 + 1 * (i 0).val = (i 0).val by omega)
  · exact Fin.ext (show 0 + 1 * (i 1).val = (i 1).val by omega)

/-- What the one grid point writes back is the result, read through that block. -/
theorem flushed_out (c : Dev nD) (t : Fin cfg0.N) :
    (dats m ρ 0 c).flushed (1 : Fin 2) t = ((cfg0.win (1 : Fin 2)).blk t).view.read (Elt F) (outV m c) := by
  obtain rfl := fin_N0 t
  funext i
  show outV m c _ = outV m c _
  exact congrArg (outV m c) (out_emb i).symm

/-- Every index of the result's array is in that block. -/
theorem cover_out (i : S512x512.Idx) :
    ∃ t : Fin cfg0.N, (cfg0.win (1 : Fin 2)).flush t = true ∧ i ∈ ((cfg0.win (1 : Fin 2)).blk t).view.set :=
  by
  refine ⟨t0_0, flush0_1 _, ?_⟩
  have h := (win0_1.blk (0 : Fin 1)).view.emb_mem_set i
  rw [out_emb] at h
  exact h

/-- The result's array after the run on device `c` is what that device's body leaves in its staging buffer. -/
theorem finalA_out (c : Dev nD) : finalA m ρ c (1 : Fin 2) = outV m c :=
  (dats m ρ 0 c).arrAt_eq_of_cover (1 : Fin 2) (outV m c) (fun t _ => flushed_out m ρ c t) cover_out

end Cert.Mesh
-- ==== Proof.Sums.lean ====
/-
The arithmetic of the equation: the gate's two forms agree, a sum round the mesh is the sum over the devices, and a
sum of 8192 terms is the sum over eight devices of sums of 1024.
-/

module

public import Idealize.ShloMosaic.PureOps.Ideal
public import Idealize.ShloMosaic.PureOps.Ideal.Laws
public import Idealize.ShloMosaic.Lib.MatmulPlain
public import proofs.«01_k».proof.Proof.Cells

@[expose] public section

noncomputable section

namespace Cert.Mesh

open Idealize.ShloMosaic Cert.KernelIdeal

theorem exp_nonneg (x : EReal) : 0 ≤ Ideal.exp x := by
  induction x with
  | bot => exact le_refl _
  | top => exact le_top
  | coe r => exact EReal.coe_nonneg.mpr (Real.exp_pos r).le

/-- `1 + e⁻ᵘ` is not zero. -/
theorem one_add_exp_ne (u : EReal) : 1 + Ideal.exp (-u) ≠ 0 := by
  have h : (0 : EReal) < 1 + Ideal.exp (-u) := lt_of_lt_of_le zero_lt_one (le_add_of_nonneg_right (exp_nonneg _))
  exact h.ne'

/-- `u` times its logistic is `u` over `1 + e⁻ᵘ`, infinite or not. -/
theorem silu (u : EReal) : u * Ideal.logistic u = Ideal.div u (1 + Ideal.exp (-u)) := by
  unfold Ideal.logistic Ideal.div
  rw [if_neg (one_add_exp_ne u), if_neg (one_add_exp_ne u), one_mul]

/-- The own term, then the ones behind in the messages' order: every device once. -/
theorem sum_round (f : Dev nD → EReal) (c : Dev nD) :
    f c + f (bwd c 0) + f (bwd c 1) + f (bwd c 2) + f (bwd c 3) + f (bwd c 4) + f (bwd c 5) + f (bwd c 6) = ∑ d, f d := by
  have e : (Finset.univ : Finset (Dev nD)) = {c, bwd c 0, bwd c 1, bwd c 2, bwd c 3, bwd c 4, bwd c 5, bwd c 6} := by revert c; decide
  have n : ∀ i j : Fin 7, i ≠ j → bwd c i ≠ bwd c j := by revert c; decide
  have n0 : ∀ i : Fin 7, c ≠ bwd c i := by revert c; decide
  rw [e, Finset.sum_insert (by simp [n0]), Finset.sum_insert (by simp [n]), Finset.sum_insert (by simp [n]), Finset.sum_insert (by simp [n]),
    Finset.sum_insert (by simp [n]), Finset.sum_insert (by simp [n]), Finset.sum_insert (by simp [n]), Finset.sum_singleton]
  simp only [add_assoc]

/-- The place of device `d`'s `k`-th hidden unit among all. -/
def unit (d : Dev nD) (k : Fin 1024) : Fin 8192 := ⟨d.val * 1024 + k.val, by have hd := d.isLt; have hk := k.isLt; change d.val < 8 at hd; omega⟩

/-- A sum over the hidden units is the sum over the devices of the sums over each one's units. -/
theorem sum_units (f : Fin 8192 → EReal) : ∑ q, f q = ∑ d : Dev nD, ∑ k : Fin 1024, f (unit d k) := by
  rw [← Fintype.sum_prod_type' (f := fun (d : Dev nD) (k : Fin 1024) => f (unit d k)), ← Equiv.sum_comp (finProdFinEquiv (m := 8) (n := 1024))]
  refine Finset.sum_congr rfl fun p _ => congrArg f (Fin.ext ?_)
  show p.2.val + 1024 * p.1.val = p.1.val * 1024 + p.2.val
  omega

end Cert.Mesh

end
-- ==== Proof.Product.lean ====
/-
What the kernel computes over the extended reals: a device's hidden activations, its partial product, the sum of the
mesh's products, and the result, each read at an index.
-/

module

public import proofs.«01_k».proof.Proof.Protocol
public import proofs.«01_k».proof.Proof.Sums
public import Idealize.ShloMosaic.Lib.ValueIdx
public import Idealize.ShloMosaic.Lib.MatmulPlain
public import Idealize.ShloMosaic.Lib.Pipeline.Value

@[expose] public section

noncomputable section

namespace Cert.Mesh

open Cert.KernelIdeal Cert.KernelIdeal.Gen
open Idealize.ShloMosaic Idealize.ShloMosaic.TcCoe Idealize.ShloMosaic.ValueIdx

variable (m : (ℓ : Loc nD τ sig) → Buf (Elt Ideal) ℓ)

/-- Device `c`'s arguments, read at a row and a column. -/
def xAt (c : Dev nD) (a q : Fin 512) : EReal := m ((c : Thread nD τ).loc main_arg0) (ix2 a q)
def wgAt (c : Dev nD) (q : Fin 512) (k : Fin 1024) : EReal := m ((c : Thread nD τ).loc main_arg1) (ix2 q k)
def wuAt (c : Dev nD) (q : Fin 512) (k : Fin 1024) : EReal := m ((c : Thread nD τ).loc main_arg2) (ix2 q k)
def wdAt (c : Dev nD) (k : Fin 1024) (b : Fin 512) : EReal := m ((c : Thread nD τ).loc main_arg3) (ix2 k b)

/-- The activations as staged are the argument. -/
theorem xC_eq (c : Dev nD) : xC m c = m ((c : Thread nD τ).loc main_arg0) := by
  funext i
  unfold xC
  show m ((c : Thread nD τ).loc main_arg0) ((win0_0.blk (0 : Fin 1)).view.emb i) = _
  refine congrArg _ (funext fun x => ?_)
  fin_cases x
  · exact Fin.ext (show 0 + 1 * (i 0).val = (i 0).val by omega)
  · exact Fin.ext (show 0 + 1 * (i 1).val = (i 1).val by omega)

/-- A row of one operand against a column of the other. -/
theorem hidden_dot (l : FVec Ideal S512x512 .f32) (r : FVec Ideal S512x1024 .f32) (a : Fin 512) (k : Fin 1024) :
    matmul dot_S512x512_S512x1024_S512x1024_1_0_0_1_n_n none l r (constant S512x1024 .f32 0x00000000#32) (ix2 a k)
      = ∑ q : Fin 512, l (ix2 a q) * r (ix2 q k) := by
  refine (Ideal.matmul_plain_apply none l r (constant S512x1024 .f32 0x00000000#32) a k).trans ?_
  show Ideal.ofBits .f32 0x00000000#32 + _ = _
  rw [Ideal.ofBits_zero_f32, zero_add]
theorem down_dot (l : FVec Ideal S512x1024 .f32) (r : FVec Ideal S1024x256 .f32) (a : Fin 512) (b : Fin 256) :
    matmul dot_S512x1024_S1024x256_S512x256_1_0_0_1_n_n none l r (constant S512x256 .f32 0x00000000#32) (ix2 a b)
      = ∑ k : Fin 1024, l (ix2 a k) * r (ix2 k b) := by
  refine (Ideal.matmul_plain_apply none l r (constant S512x256 .f32 0x00000000#32) a b).trans ?_
  show Ideal.ofBits .f32 0x00000000#32 + _ = _
  rw [Ideal.ofBits_zero_f32, zero_add]

/-- Row `a`'s product with the gate's column `k` of device `c`, and with the up weights'. -/
def gate (c : Dev nD) (a : Fin 512) (k : Fin 1024) : EReal :=
  ∑ q : Fin 512, xAt m c a q * wgAt m c q k
def up (c : Dev nD) (a : Fin 512) (k : Fin 1024) : EReal :=
  ∑ q : Fin 512, xAt m c a q * wuAt m c q k

/-- The hidden activations: the gate times the up product times its logistic. -/
theorem act_apply (c : Dev nD) (a : Fin 512) (k : Fin 1024) :
    act m c (ix2 a k) = gate m c a k * (up m c a k * Ideal.logistic (up m c a k)) := by
  have hg := hidden_dot (xC m c) (wgC m c) a k
  have hu := hidden_dot (xC m c) (wuC m c) a k
  unfold act k0_pay2 k0_pay1
  simp only [shapeCast_self]
  show FloatOps.mulf _ (FloatOps.mulf _ (FloatOps.logistic _)) = _
  rw [hg, hu, xC_eq]
  rfl

/-- Half `h` of the down weights is the argument's columns from `256 h` on. -/
theorem wdC_apply (c : Dev nD) (h : Fin 2) (k : Fin 1024) (b : Fin 256) (hb : 256 * h.val + b.val < 512) :
    wdC m c h (ix2 k b) = wdAt m c k ⟨256 * h.val + b.val, hb⟩ := by
  unfold wdC
  show m ((c : Thread nD τ).loc main_arg3) ((wdSrc h).view.emb (ix2 k b)) = _
  refine congrArg _ (funext fun x => ?_)
  fin_cases x
  · exact Fin.ext (show 0 + 1 * k.val = k.val by omega)
  · exact Fin.ext (show 256 * h.val + 1 * b.val = 256 * h.val + b.val by omega)

/-- Device `c`'s partial product at row `a` and column `b` of the result. -/
def part (c : Dev nD) (a : Fin 512) (b : Fin 512) : EReal :=
  ∑ k : Fin 1024, act m c (ix2 a k) * wdAt m c k b

theorem pD_apply (c : Dev nD) (h : Fin 2) (a : Fin 512) (b : Fin 256) (hb : 256 * h.val + b.val < 512) :
    pD m c h (ix2 a b) = part m c a ⟨256 * h.val + b.val, hb⟩ := by
  unfold pD part
  refine (down_dot (act m c) (wdC m c h) a b).trans ?_
  exact Finset.sum_congr rfl fun k _ => by rw [wdC_apply m c h k b hb]

theorem blk_apply (d : Dev nD) (h : Fin 2) (j : Fin 8) (a : Fin 64) (b : Fin 256) (ha : 64 * j.val + a.val < 512) (hb : 256 * h.val + b.val < 512) :
    blk m d h j (ix2 a b) = part m d ⟨64 * j.val + a.val, ha⟩ ⟨256 * h.val + b.val, hb⟩ := by
  unfold blk
  rw [← pD_apply m d h ⟨64 * j.val + a.val, ha⟩ b hb]
  refine congrArg _ (funext fun x => ?_)
  fin_cases x
  · exact Fin.ext (show 64 * j.val + 1 * a.val = 64 * j.val + a.val by omega)
  · exact Fin.ext (show 0 + 1 * b.val = b.val by omega)

/-- What device `c` sums is the sum of all devices' partial products at its rows. -/
theorem redV_apply (c : Dev nD) (h : Fin 2) (a : Fin 64) (b : Fin 256) (ha : 64 * c.val + a.val < 512) (hb : 256 * h.val + b.val < 512) :
    redV m c h (ix2 a b) = ∑ d : Dev nD, part m d ⟨64 * c.val + a.val, ha⟩ ⟨256 * h.val + b.val, hb⟩ := by
  rw [← sum_round (fun d => part m d ⟨64 * c.val + a.val, ha⟩ ⟨256 * h.val + b.val, hb⟩) c]
  simp only [← blk_apply m _ h c a b ha hb]
  rfl

/-- A block of the result is the sum at its rows, summed here or sent. -/
theorem piece_eq (c : Dev nD) (h : Fin 2) (j : Fin 8) : piece m c h j = redV m j h := by
  unfold piece
  split
  · next e => rw [e]
  · rfl

/-- Every device's result is the sum of the devices' partial products. -/
theorem outV_apply (c : Dev nD) (a : Fin 512) (b : Fin 512) : outV m c (ix2 a b) = ∑ d : Dev nD, part m d a b := by
  unfold outV
  rw [piece_eq]
  have ha := a.isLt
  have hb := b.isLt
  have h1 : 64 * (a.val / 64) + a.val % 64 < 512 := by omega
  have h2 : 256 * (b.val / 256) + b.val % 256 < 512 := by omega
  have e := redV_apply m (⟨a.val / 64, by show a.val / 64 < 8; omega⟩ : Dev nD) (⟨b.val / 256, by omega⟩ : Fin 2) ⟨a.val % 64, by omega⟩ ⟨b.val % 256, by omega⟩ h1 h2
  refine Eq.trans ?_ (e.trans ?_)
  · refine congrArg _ (funext fun x => ?_)
    fin_cases x <;> rfl
  · refine Finset.sum_congr rfl fun d _ => ?_
    congr 1 <;> exact Fin.ext (by simp only; omega)

end Cert.Mesh

end
-- ==== Proof.Equation.lean ====
/-
The equation: on every device the kernel's result is the reference's.
-/

module

public import proofs.«01_k».proof.Proof.Product
public import proofs.«01_k».proof.Proof.Gen.ReferenceIdeal.Read
public import Idealize.ShloMosaic.Lib.Layout

@[expose] public section

noncomputable section

namespace Cert.Mesh

open Cert.KernelIdeal Cert.KernelIdeal.Gen
open Idealize.ShloMosaic Idealize.ShloMosaic.TcCoe Idealize.ShloMosaic.ValueIdx
open Cert.ReferenceIdeal.Read

variable (X : (⟨Cert.ReferenceIdeal.S512x512, .f32⟩ : BufTy).Contents (Elt Ideal)) (WG WU : (⟨Cert.ReferenceIdeal.S512x8192, .f32⟩ : BufTy).Contents (Elt Ideal))
  (WD : (⟨Cert.ReferenceIdeal.S8192x512, .f32⟩ : BufTy).Contents (Elt Ideal))

/-- The whole arrays, read at a row and a column. -/
def xW (a q : Fin 512) : EReal := X (ix2 a q)
def gW (W : (⟨Cert.ReferenceIdeal.S512x8192, .f32⟩ : BufTy).Contents (Elt Ideal)) (q : Fin 512) (u : Fin 8192) : EReal := W (ix2 q u)
def dW (u : Fin 8192) (b : Fin 512) : EReal := WD (ix2 u b)

/-- The literal is one. -/
theorem ofBits_one : Ideal.ofBits .f32 0x3F800000#32 = 1 := by simp [Ideal.ofBits, Ideal.ieee, -EReal.coe_mul]; norm_num

/-- The reference's hidden unit `u` at row `a`. -/
theorem ref_hidden (a : Fin 512) (u : Fin 8192) : val_main_v7 (F := Ideal) X WG WU (ix2 a u)
    = (∑ q : Fin 512, xW X a q * gW WG q u)
      * Ideal.div (∑ q : Fin 512, xW X a q * gW WU q u) (1 + Ideal.exp (-(∑ q : Fin 512, xW X a q * gW WU q u))) := by
  have e (W : (⟨Cert.ReferenceIdeal.S512x8192, .f32⟩ : BufTy).Contents (Elt Ideal)) :
      val_main_v0 (F := Ideal) X W (ix2 a u) = ∑ q : Fin 512, xW X a q * gW W q u := by
    rw [val_main_v0_apply]
    refine Finset.sum_congr rfl fun q _ => congrArg₂ (· * ·) (congrArg X (funext fun x => ?_)) (congrArg W (funext fun x => ?_))
    · fin_cases x <;> rfl
    · fin_cases x <;> rfl
  have e1 : val_main_v1 (F := Ideal) X WU = val_main_v0 (F := Ideal) X WU := rfl
  rw [val_main_v7_apply, val_main_v6_apply, val_main_v5_apply, val_main_v4_apply, val_main_cst_apply, val_main_v3_apply, val_main_v2_apply, e1, e, e]
  show _ * Ideal.div _ (Ideal.ofBits .f32 0x3F800000#32 + Ideal.exp (-_)) = _
  rw [ofBits_one]

/-- The reference's result at row `a` and column `b`. -/
theorem ref_apply (a b : Fin 512) : val_main_v8 (F := Ideal) X WG WU WD (ix2 a b)
    = ∑ d : Dev nD, ∑ k : Fin 1024, val_main_v7 (F := Ideal) X WG WU (ix2 a (unit d k)) * dW WD (unit d k) b := by
  rw [← sum_units fun u => val_main_v7 (F := Ideal) X WG WU (ix2 a u) * dW WD u b, val_main_v8_apply]
  refine Finset.sum_congr rfl fun q _ => congrArg₂ (· * ·) (congrArg _ (funext fun x => ?_)) (congrArg WD (funext fun x => ?_))
  · fin_cases x <;> rfl
  · fin_cases x <;> rfl

variable (m : (ℓ : Loc nD τ sig) → Buf (Elt Ideal) ℓ)

/-- Every device's result is the reference's: its hidden units are the reference's from `1024 c` on, and the sum over all
    hidden units is the sum over the devices of the sums over theirs. -/
theorem result_eq
    (hx : ∀ c : Dev nD, m ((c : Thread nD τ).loc main_arg0) = X)
    (hg : ∀ c : Dev nD, m ((c : Thread nD τ).loc main_arg1) = Layout.block ⟨2, ![512, 1024]⟩ ⟨2, ![512, 8192]⟩ 1 8 c WG)
    (hu : ∀ c : Dev nD, m ((c : Thread nD τ).loc main_arg2) = Layout.block ⟨2, ![512, 1024]⟩ ⟨2, ![512, 8192]⟩ 1 8 c WU)
    (hd : ∀ c : Dev nD, m ((c : Thread nD τ).loc main_arg3) = Layout.block ⟨2, ![1024, 512]⟩ ⟨2, ![8192, 512]⟩ 0 8 c WD)
    (c : Dev nD) : outV m c = val_main_v8 (F := Ideal) X WG WU WD := by
  have ex (c : Dev nD) (a q : Fin 512) : xAt m c a q = xW X a q := congrFun (hx c) (ix2 a q)
  have eg (c : Dev nD) (q : Fin 512) (k : Fin 1024) : wgAt m c q k = gW WG q (unit c k) :=
    (congrFun (hg c) (ix2 q k)).trans (congrArg WG (funext fun x => by fin_cases x <;> exact Fin.ext rfl))
  have eu (c : Dev nD) (q : Fin 512) (k : Fin 1024) : wuAt m c q k = gW WU q (unit c k) :=
    (congrFun (hu c) (ix2 q k)).trans (congrArg WU (funext fun x => by fin_cases x <;> exact Fin.ext rfl))
  have ed (c : Dev nD) (k : Fin 1024) (b : Fin 512) : wdAt m c k b = dW WD (unit c k) b :=
    (congrFun (hd c) (ix2 k b)).trans (congrArg WD (funext fun x => by fin_cases x <;> exact Fin.ext rfl))
  have eh (d : Dev nD) (a : Fin 512) (k : Fin 1024) : act m d (ix2 a k) = val_main_v7 (F := Ideal) X WG WU (ix2 a (unit d k)) := by
    rw [act_apply, silu, ref_hidden]
    unfold gate up
    simp only [ex, eg, eu]
  funext i
  rw [eq_ix2 i]
  refine (outV_apply m c _ _).trans ((Finset.sum_congr rfl fun d _ => Finset.sum_congr rfl fun k _ => ?_).trans (ref_apply X WG WU WD _ _).symm)
  exact congrArg₂ (· * ·) (eh d (i 0) k) (ed d k (i 1))

end Cert.Mesh

end
-- ==== Proof.Same.lean ====
/-
The kernel as printed for bit patterns and as printed for the extended reals are one program: their tables of bodies and
their launches are equal, so what is proved of one for any float values holds of the other.
-/

module

public import proofs.«01_k».proof.Proof.Gen.Kernel
public import proofs.«01_k».proof.Proof.Gen.KernelIdeal

@[expose] public section

set_option maxRecDepth 100000

noncomputable section

namespace Cert.Mesh

open Idealize.ShloMosaic

variable {F : FTy → Type} [FloatOps F]

/-- The tables of bodies have one row, the kernel's body, and it is the same text in both. -/
theorem bodies_same : Cert.Kernel.defs₀ (F := F) = Cert.KernelIdeal.defs₀ (F := F) := by
  refine congrArg Defs.onTc ?_
  funext p a
  rcases p with ⟨_ | p, h⟩
  · rfl
  · exact absurd h (by omega)

/-- So are the tables with the pipeline around the body. -/
theorem tables_same : Cert.Kernel.defs (F := F) = Cert.KernelIdeal.defs (F := F) :=
  congrArg (Pipeline.defs Cert.KernelIdeal.pcfgs) bodies_same

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Result
public import proofs.«01_k».proof.Proof.Equation
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's run, for any float values: every device's arguments end as they were. The
    activations are a window's array, the weights are read where they lie. -/
theorem args_kept {F : FTy → Type} [FloatOps F]
    (m : (ℓ : Loc Cert.KernelIdeal.nD Cert.KernelIdeal.τ Cert.KernelIdeal.sig) → Buf (Elt F) ℓ)
    (ρ : Dev Cert.KernelIdeal.nD → PrngReg)
    (r : PUnit × MemSt Cert.KernelIdeal.nD Cert.KernelIdeal.τ Cert.KernelIdeal.sig (Elt F)) (h : Cert.Mesh.QC m ρ r)
    (c : Dev Cert.KernelIdeal.nD) :
    r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3) :=
  ⟨((h c).1 (0 : Fin 2)).trans (Cert.Mesh.finalA_x m ρ c), (h c).2⟩

/-- For any float values the kernel terminates on all eight devices, faults nowhere, leaves the arguments as they were
    and every semaphore's counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1)
          ∧ r.2.mem (c.tc.loc Cert.KernelIdeal.main_arg2) = m (c.tc.loc Cert.KernelIdeal.main_arg2)
          ∧ r.2.mem (c.tc.loc Cert.KernelIdeal.main_arg3) = m (c.tc.loc Cert.KernelIdeal.main_arg3))
        ∧ r.2.sem = fun _ => 0) :=
  (θ_run Cert.KernelIdeal.defs _ _).mono (fun r h => ⟨fun c => args_kept m ρ r h.1 c, h.2⟩) (Cert.Mesh.run_main m ρ)

/-- The kernel as it runs, on bit patterns. -/
theorem frame_kernel : Cert.quiescent_Kernel := by
  intro m ρ _
  rw [Cert.Mesh.tables_same]
  exact frame_any (F := Bits) m ρ

/-- The kernel read over the extended reals. -/
theorem frame_ideal : Cert.quiescent_KernelIdeal := fun m ρ _ => frame_any (F := Ideal) m ρ

/-- The same of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from the whole arrays and the devices' parts of them: the kernel's result on every device is
    the reference's. -/
theorem algebraic : Cert.algebraic_KernelIdeal_ReferenceIdeal := fun m g m' g' _ hm =>
  ⟨Cert.ReferenceIdeal.Read.val_main_v8 (F := Ideal)
      (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3)),
    (θ_run Cert.KernelIdeal.defs _ _).mono
      (fun r h c =>
        ⟨((h.1 c).1 (1 : Fin 2)).trans ((Cert.Mesh.finalA_out m g c).trans
            (Cert.Mesh.result_eq _ _ _ _ m (fun c => (hm c).1) (fun c => (hm c).2.1) (fun c => (hm c).2.2.1)
              (fun c => (hm c).2.2.2) c)),
          args_kept m g r h.1 c⟩)
      (Cert.Mesh.run_main (F := Ideal) m g),
    (θ_run Cert.ReferenceIdeal.defs _ _).mono
      (fun r h => ⟨(h 0).1.trans (Cert.ReferenceIdeal.Read.val_main_v8_eq _ _ _ _), (h 0).2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
